-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2 = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2 = (fun _ => 1#1)

def Pre_Kernel2Ideal_gated [hPre_gated : Cert.Pre_gated.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_gated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_gated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gated [hPre_gated : Cert.Pre_gated.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_gated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_gated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_gated [hKernel2Ideal : Cert.Kernel2Ideal.Facts] [hPre_gated : Cert.Pre_gated.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gated m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_gated [hReference2Ideal : Cert.Reference2Ideal.Facts] [hPre_gated : Cert.Pre_gated.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gated m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_gated [hKernel2Ideal : Cert.Kernel2Ideal.Facts] [hReference2Ideal : Cert.Reference2Ideal.Facts] [hPre_gated : Cert.Pre_gated.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gated m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_routed : Cert.Pre_routed.Facts) (hPre_gated : Cert.Pre_gated.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Kernel2Ideal_pre_gated (hKernel2Ideal := hKernel2Ideal) (hPre_gated := hPre_gated)
    ∧ quiescent_Reference2Ideal (hReference2Ideal := hReference2Ideal)
    ∧ quiescent_Reference2Ideal_pre_gated (hReference2Ideal := hReference2Ideal) (hPre_gated := hPre_gated)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_gated (hKernel2Ideal := hKernel2Ideal) (hReference2Ideal := hReference2Ideal) (hPre_gated := hPre_gated)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S1 : Shape := ⟨1, ![1]⟩
abbrev S32x2048x5632 : Shape := ⟨3, ![32, 2048, 5632]⟩
abbrev S32x256x2048 : Shape := ⟨3, ![32, 256, 2048]⟩
abbrev S1x128 : Shape := ⟨2, ![1, 128]⟩
abbrev S_ : Shape := ⟨0, ![]⟩
abbrev S32x2048x3072 : Shape := ⟨3, ![32, 2048, 3072]⟩

class Facts : Prop where
  bcast_S_S1 : S_.BroadcastsInDim S1 (![] : Fin 0 → Fin S1.rank)
  slices_S32x2048x5632_S32x2048x3072_0_0_0 : S32x2048x5632.Slices ![0, 0, 0] S32x2048x3072
  bcast_S_S32x2048x3072 : S_.BroadcastsInDim S32x2048x3072 (![] : Fin 0 → Fin S32x2048x3072.rank)
  bcast_S_S32x256x2048 : S_.BroadcastsInDim S32x256x2048 (![] : Fin 0 → Fin S32x256x2048.rank)

variable [Facts]

def fn {F : FTy → Type} [FloatOps F] (main_arg0 : FVec F S1 .f32) (main_arg1 : FVec F S32x2048x5632 .bf16) (main_arg2 : FVec F S32x256x2048 .bf16) (main_arg3 : FVec F S1x128 .f32) : IVec S1 1 × IVec S32x2048x3072 1 × IVec S32x256x2048 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_v3 : FVec F S32x2048x3072 .bf16 := (extractStridedSlice S32x2048x3072 ![0, 0, 0] · slices_S32x2048x5632_S32x2048x3072_0_0_0) main_arg1
  let main_v4 : FVec F S32x2048x3072 .bf16 := Host.absf main_v3
  let main_cst_0 : FVec F S_ .bf16 := constant S_ .bf16 0x7F80#16
  let main_v5 : FVec F S32x2048x3072 .bf16 := broadcastInDim S32x2048x3072 ![] bcast_S_S32x2048x3072 main_cst_0
  let main_v6 : IVec S32x2048x3072 1 := cmpf .olt main_v4 main_v5
  let main_v7 : FVec F S32x256x2048 .bf16 := Host.absf main_arg2
  let main_cst_1 : FVec F S_ .bf16 := constant S_ .bf16 0x7F80#16
  let main_v8 : FVec F S32x256x2048 .bf16 := broadcastInDim S32x256x2048 ![] bcast_S_S32x256x2048 main_cst_1
  let main_v9 : IVec S32x256x2048 1 := cmpf .olt main_v7 main_v8
  (main_v2, main_v6, main_v9)
-- ==== Pre_gated.lean ====
abbrev S152 : Shape := ⟨1, ![152]⟩
abbrev S77824x8x128 : Shape := ⟨3, ![77824, 8, 128]⟩
abbrev S77824x4x128 : Shape := ⟨3, ![77824, 4, 128]⟩
abbrev S16x1024x512 : Shape := ⟨3, ![16, 1024, 512]⟩
abbrev S16x512x1024 : Shape := ⟨3, ![16, 512, 1024]⟩
abbrev S77824x1x2 : Shape := ⟨3, ![77824, 1, 2]⟩
abbrev S77824x2 : Shape := ⟨2, ![77824, 2]⟩
abbrev S_ : Shape := ⟨0, ![]⟩

class Facts : Prop where
  slices_S77824x8x128_S77824x1x2_0_4_0 : S77824x8x128.Slices ![0, 4, 0] S77824x1x2
  shapeCasts_S77824x1x2_S77824x2 : S77824x1x2.ShapeCasts S77824x2
  bcast_S_S152 : S_.BroadcastsInDim S152 (![] : Fin 0 → Fin S152.rank)
  bcast_S_S77824x2 : S_.BroadcastsInDim S77824x2 (![] : Fin 0 → Fin S77824x2.rank)

variable [Facts]

def fn {F : FTy → Type} [FloatOps F] (main_arg0 : IVec S152 32) (main_arg1 : IVec S152 32) (main_arg2 : IVec S152 32) (main_arg3 : FVec F S77824x8x128 .f32) (main_arg4 : FVec F S77824x4x128 .f32) (main_arg5 : FVec F S16x1024x512 .bf16) (main_arg6 : FVec F S16x1024x512 .bf16) (main_arg7 : FVec F S16x512x1024 .bf16) : IVec S152 1 × IVec S152 1 × IVec S77824x2 1 :=
  let main_v0 : FVec F S77824x1x2 .f32 := (extractStridedSlice S77824x1x2 ![0, 4, 0] · slices_S77824x8x128_S77824x1x2_0_4_0) main_arg3
  let main_v1 : FVec F S77824x2 .f32 := shapeCast S77824x2 main_v0 shapeCasts_S77824x1x2_S77824x2
  let main_c : IVec S_ 32 := constantI S_ 32 0#32
  let main_v2 : IVec S152 32 := broadcastInDim S152 ![] bcast_S_S152 main_c
  let main_v3 : IVec S152 1 := cmpi .sge main_arg0 main_v2
  let main_c_0 : IVec S_ 32 := constantI S_ 32 16#32
  let main_v4 : IVec S152 32 := broadcastInDim S152 ![] bcast_S_S152 main_c_0
  let main_v5 : IVec S152 1 := cmpi .slt main_arg0 main_v4
  let main_v6 : IVec S152 1 := andi main_v3 main_v5
  let main_c_1 : IVec S_ 32 := constantI S_ 32 0#32
  let main_v7 : IVec S152 32 := broadcastInDim S152 ![] bcast_S_S152 main_c_1
  let main_v8 : IVec S152 1 := cmpi .sge main_arg1 main_v7
  let main_c_2 : IVec S_ 32 := constantI S_ 32 16#32
  let main_v9 : IVec S152 32 := broadcastInDim S152 ![] bcast_S_S152 main_c_2
  let main_v10 : IVec S152 1 := cmpi .slt main_arg1 main_v9
  let main_v11 : IVec S152 1 := andi main_v8 main_v10
  let main_cst : FVec F S_ .f32 := constant S_ .f32 0x00000000#32
  let main_v12 : FVec F S77824x2 .f32 := broadcastInDim S77824x2 ![] bcast_S_S77824x2 main_cst
  let main_v13 : IVec S77824x2 1 := cmpf .oge main_v1 main_v12
  let main_cst_3 : FVec F S_ .f32 := constant S_ .f32 0x7F800000#32
  let main_v14 : FVec F S77824x2 .f32 := broadcastInDim S77824x2 ![] bcast_S_S77824x2 main_cst_3
  let main_v15 : IVec S77824x2 1 := cmpf .olt main_v1 main_v14
  let main_v16 : IVec S77824x2 1 := andi main_v13 main_v15
  (main_v6, main_v11, main_v16)
-- ==== Pre_routed.lean ====
abbrev S152 : Shape := ⟨1, ![152]⟩
abbrev S77824x8x128 : Shape := ⟨3, ![77824, 8, 128]⟩
abbrev S77824x4x128 : Shape := ⟨3, ![77824, 4, 128]⟩
abbrev S16x1024x512 : Shape := ⟨3, ![16, 1024, 512]⟩
abbrev S16x512x1024 : Shape := ⟨3, ![16, 512, 1024]⟩
abbrev S_ : Shape := ⟨0, ![]⟩

class Facts : Prop where
  bcast_S_S152 : S_.BroadcastsInDim S152 (![] : Fin 0 → Fin S152.rank)

variable [Facts]

def fn {F : FTy → Type} [FloatOps F] (main_arg0 : IVec S152 32) (main_arg1 : IVec S152 32) (main_arg2 : IVec S152 32) (main_arg3 : FVec F S77824x8x128 .f32) (main_arg4 : FVec F S77824x4x128 .f32) (main_arg5 : FVec F S16x1024x512 .bf16) (main_arg6 : FVec F S16x1024x512 .bf16) (main_arg7 : FVec F S16x512x1024 .bf16) : IVec S152 1 × IVec S152 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 16#32
  let main_v2 : IVec S152 32 := broadcastInDim S152 ![] bcast_S_S152 main_c_0
  let main_v3 : IVec S152 1 := cmpi .slt main_arg0 main_v2
  let main_v4 : IVec S152 1 := andi main_v1 main_v3
  let main_c_1 : IVec S_ 32 := constantI S_ 32 0#32
  let main_v5 : IVec S152 32 := broadcastInDim S152 ![] bcast_S_S152 main_c_1
  let main_v6 : IVec S152 1 := cmpi .sge main_arg1 main_v5
  let main_c_2 : IVec S_ 32 := constantI S_ 32 16#32
  let main_v7 : IVec S152 32 := broadcastInDim S152 ![] bcast_S_S152 main_c_2
  let main_v8 : IVec S152 1 := cmpi .slt main_arg1 main_v7
  let main_v9 : IVec S152 1 := andi main_v6 main_v8
  (main_v4, main_v9)
-- ==== Kernel.lean ====
abbrev S1 : Shape := ⟨1, ![1]⟩
abbrev S32x2048x5632 : Shape := ⟨3, ![32, 2048, 5632]⟩
abbrev S32x256x2048 : Shape := ⟨3, ![32, 256, 2048]⟩
abbrev S1x128 : Shape := ⟨2, ![1, 128]⟩
abbrev S32x2048x1024 : Shape := ⟨3, ![32, 2048, 1024]⟩
abbrev S1x2048x256 : Shape := ⟨3, ![1, 2048, 256]⟩
abbrev S1x256x256 : Shape := ⟨3, ![1, 256, 256]⟩
abbrev S2x2304x128 : Shape := ⟨3, ![2, 2304, 128]⟩
abbrev S2x144x2304 : Shape := ⟨3, ![2, 144, 2304]⟩
abbrev S2x2304x256 : Shape := ⟨3, ![2, 2304, 256]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S128x256 : Shape := ⟨2, ![128, 256]⟩
abbrev S1x128x256 : Shape := ⟨3, ![1, 128, 256]⟩
abbrev S128x2048 : Shape := ⟨2, ![128, 2048]⟩
abbrev S1x128x2048 : Shape := ⟨3, ![1, 128, 2048]⟩
abbrev S16x2304 : Shape := ⟨2, ![16, 2304]⟩
abbrev S1x16x2304 : Shape := ⟨3, ![1, 16, 2304]⟩
abbrev S1x2304x128 : Shape := ⟨3, ![1, 2304, 128]⟩
abbrev S2304x128 : Shape := ⟨2, ![2304, 128]⟩
abbrev S2304x256 : Shape := ⟨2, ![2304, 256]⟩
abbrev S1x2304x256 : Shape := ⟨3, ![1, 2304, 256]⟩
abbrev S256 : Shape := ⟨1, ![256]⟩
abbrev S1x256 : Shape := ⟨2, ![1, 256]⟩
abbrev S1x144x2304 : Shape := ⟨3, ![1, 144, 2304]⟩
abbrev S144x2304 : Shape := ⟨2, ![144, 2304]⟩
abbrev S144x256 : Shape := ⟨2, ![144, 256]⟩
abbrev S256x1 : Shape := ⟨2, ![256, 1]⟩

abbrev nBuf : Space → Nat
  | .hbm => 5
  | .vmem => 18
  | .smem => 1
  | _ => 0

abbrev bufTy : (tb : Table) → Fin (tcTables nBuf tb) → BufTy
  | .hbm, ⟨0, _⟩ => ⟨S1, .f32⟩
  | .hbm, ⟨1, _⟩ => ⟨S32x2048x5632, .bf16⟩
  | .hbm, ⟨2, _⟩ => ⟨S32x256x2048, .bf16⟩
  | .hbm, ⟨3, _⟩ => ⟨S1x128, .f32⟩
  | .hbm, ⟨4, _⟩ => ⟨S32x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x128, .f32⟩
  | .local _ .vmem, ⟨11, _⟩ => ⟨S1x2048x256, .bf16⟩
  | .local _ .vmem, ⟨12, _⟩ => ⟨S1x2048x256, .bf16⟩
  | .local _ .vmem, ⟨13, _⟩ => ⟨S2x2304x128, .bf16⟩
  | .local _ .vmem, ⟨14, _⟩ => ⟨S2x144x2304, .bf16⟩
  | .local _ .vmem, ⟨15, _⟩ => ⟨S2x2304x256, .f32⟩
  | .local _ .vmem, ⟨16, _⟩ => ⟨S2x2304x256, .f32⟩
  | .local _ .vmem, ⟨17, _⟩ => ⟨S2x2304x256, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S1 : Shape := ⟨1, ![1]⟩
abbrev S32x2048x5632 : Shape := ⟨3, ![32, 2048, 5632]⟩
abbrev S32x256x2048 : Shape := ⟨3, ![32, 256, 2048]⟩
abbrev S1x128 : Shape := ⟨2, ![1, 128]⟩
abbrev S32x2048x3072 : Shape := ⟨3, ![32, 2048, 3072]⟩
abbrev S32x2048x1024 : Shape := ⟨3, ![32, 2048, 1024]⟩
abbrev S32x2048x8x2x64 : Shape := ⟨5, ![32, 2048, 8, 2, 64]⟩
abbrev S32x256x1024 : Shape := ⟨3, ![32, 256, 1024]⟩
abbrev S32x2304x1024 : Shape := ⟨3, ![32, 2304, 1024]⟩
abbrev S32x2304x8x2x64 : Shape := ⟨5, ![32, 2304, 8, 2, 64]⟩
abbrev S32x2304x8x128 : Shape := ⟨4, ![32, 2304, 8, 128]⟩
abbrev S32x8x2x2048x2304 : Shape := ⟨5, ![32, 8, 2, 2048, 2304]⟩
abbrev S_ : Shape := ⟨0, ![]⟩
abbrev S32x8x2x2048 : Shape := ⟨4, ![32, 8, 2, 2048]⟩
abbrev S32x8x2x2048x1 : Shape := ⟨5, ![32, 8, 2, 2048, 1]⟩
abbrev S32x8x1x2048x2304 : Shape := ⟨5, ![32, 8, 1, 2048, 2304]⟩
abbrev S32x8x2048x2304 : Shape := ⟨4, ![32, 8, 2048, 2304]⟩
abbrev S32x8x128x2048 : Shape := ⟨4, ![32, 8, 128, 2048]⟩
abbrev S32x2048x8x128 : Shape := ⟨4, ![32, 2048, 8, 128]⟩
abbrev S128 : Shape := ⟨1, ![128]⟩
abbrev S32x2048x8 : Shape := ⟨3, ![32, 2048, 8]⟩
abbrev S32x2048x8x1 : Shape := ⟨4, ![32, 2048, 8, 1]⟩
abbrev S1x1x1x128 : Shape := ⟨4, ![1, 1, 1, 128]⟩

abbrev nBuf : Space → Nat
  | .hbm => 68
  | .vmem => 0
  | .smem => 0
  | _ => 0

abbrev bufTy : (tb : Table) → Fin (tcTables nBuf tb) → BufTy
  | .hbm, ⟨0, _⟩ => ⟨S1, .f32⟩
  | .hbm, ⟨1, _⟩ => ⟨S32x2048x5632, .bf16⟩
  | .hbm, ⟨2, _⟩ => ⟨S32x256x2048, .bf16⟩
  | .hbm, ⟨3, _⟩ => ⟨S1x128, .f32⟩
  | .hbm, ⟨4, _⟩ => ⟨S32x2048x3072, .bf16⟩
  | .hbm, ⟨5, _⟩ => ⟨S32x2048x3072, .f32⟩
  | .hbm, ⟨6, _⟩ => ⟨S32x256x2048, .f32⟩
  | .hbm, ⟨7, _⟩ => ⟨S32x2048x1024, .f32⟩
  | .hbm, ⟨8, _⟩ => ⟨S32x2048x8x2x64, .f32⟩
  | .hbm, ⟨9, _⟩ => ⟨S32x256x1024, .f32⟩
  | .hbm, ⟨10, _⟩ => ⟨S32x2048x1024, .f32⟩
  | .hbm, ⟨11, _⟩ => ⟨S32x2304x1024, .f32⟩
  | .hbm, ⟨12, _⟩ => ⟨S32x2304x8x2x64, .f32⟩
  | .hbm, ⟨13, _⟩ => ⟨S32x256x1024, .f32⟩
  | .hbm, ⟨14, _⟩ => ⟨S32x2048x1024, .f32⟩
  | .hbm, ⟨15, _⟩ => ⟨S32x2304x1024, .f32⟩
  | .hbm, ⟨16, _⟩ => ⟨S32x2304x8x128, .f32⟩
  | .hbm, ⟨17, _⟩ => ⟨S32x8x2x2048x2304, .f32⟩
  | .hbm, ⟨18, _⟩ => ⟨S_, .f32⟩
  | .hbm, ⟨19, _⟩ => ⟨S_, .f32⟩
  | .hbm, ⟨20, _⟩ => ⟨S32x8x2x2048x2304, .f32⟩
  | .hbm, ⟨21, _⟩ => ⟨S32x8x2x2048x2304, .f32⟩
  | .hbm, ⟨22, _⟩ => ⟨S_, .f32⟩
  | .hbm, ⟨23, _⟩ => ⟨S32x8x2x2048, .f32⟩
  | .hbm, ⟨24, _⟩ => ⟨S_, .f32⟩
  | .hbm, ⟨25, _⟩ => ⟨S32x8x2x2048, .f32⟩
  | .hbm, ⟨26, _⟩ => ⟨S32x8x2x2048, .f32⟩
  | .hbm, ⟨27, _⟩ => ⟨S32x8x2x2048x1, .f32⟩
  | .hbm, ⟨28, _⟩ => ⟨S32x8x2x2048x2304, .f32⟩
  | .hbm, ⟨29, _⟩ => ⟨S32x8x2x2048x2304, .f32⟩
  | .hbm, ⟨30, _⟩ => ⟨S32x8x2x2048x2304, .f32⟩
  | .hbm, ⟨31, _⟩ => ⟨S_, .f32⟩
  | .hbm, ⟨32, _⟩ => ⟨S32x8x2x2048, .f32⟩
  | .hbm, ⟨33, _⟩ => ⟨S32x8x2x2048x1, .f32⟩
  | .hbm, ⟨34, _⟩ => ⟨S32x8x2x2048x2304, .f32⟩
  | .hbm, ⟨35, _⟩ => ⟨S32x8x2x2048x2304, .f32⟩
  | .hbm, ⟨36, _⟩ => ⟨S32x8x1x2048x2304, .f32⟩
  | .hbm, ⟨37, _⟩ => ⟨S32x8x2048x2304, .f32⟩
  | .hbm, ⟨38, _⟩ => ⟨S_, .f32⟩
  | .hbm, ⟨39, _⟩ => ⟨S32x8x1x2048x2304, .f32⟩
  | .hbm, ⟨40, _⟩ => ⟨S32x8x2048x2304, .f32⟩
  | .hbm, ⟨41, _⟩ => ⟨S32x8x2048x2304, .f32⟩
  | .hbm, ⟨42, _⟩ => ⟨S32x8x2048x2304, .f32⟩
  | .hbm, ⟨43, _⟩ => ⟨S32x8x2048x2304, .f32⟩
  | .hbm, ⟨44, _⟩ => ⟨S32x8x128x2048, .f32⟩
  | .hbm, ⟨45, _⟩ => ⟨S32x2048x8x128, .f32⟩
  | .hbm, ⟨46, _⟩ => ⟨S128, .f32⟩
  | .hbm, ⟨47, _⟩ => ⟨S32x2048x8x128, .f32⟩
  | .hbm, ⟨48, _⟩ => ⟨S_, .f32⟩
  | .hbm, ⟨49, _⟩ => ⟨S32x2048x8, .f32⟩
  | .hbm, ⟨50, _⟩ => ⟨S32x2048x8x1, .f32⟩
  | .hbm, ⟨51, _⟩ => ⟨S_, .f32⟩
  | .hbm, ⟨52, _⟩ => ⟨S32x2048x8x1, .f32⟩
  | .hbm, ⟨53, _⟩ => ⟨S32x2048x8x1, .f32⟩
  | .hbm, ⟨54, _⟩ => ⟨S_, .f32⟩
  | .hbm, ⟨55, _⟩ => ⟨S32x2048x8x1, .f32⟩
  | .hbm, ⟨56, _⟩ => ⟨S32x2048x8x1, .f32⟩
  | .hbm, ⟨57, _⟩ => ⟨S32x2048x8x1, .f32⟩
  | .hbm, ⟨58, _⟩ => ⟨S32x2048x8x128, .f32⟩
  | .hbm, ⟨59, _⟩ => ⟨S32x2048x8x128, .f32⟩
  | .hbm, ⟨60, _⟩ => ⟨S1x1x1x128, .f32⟩
  | .hbm, ⟨61, _⟩ => ⟨S32x2048x8x128, .f32⟩
  | .hbm, ⟨62, _⟩ => ⟨S32x2048x8x128, .f32⟩
  | .hbm, ⟨63, _⟩ => ⟨S_, .f32⟩
  | .hbm, ⟨64, _⟩ => ⟨S32x2048x8x128, .f32⟩
  | .hbm, ⟨65, _⟩ => ⟨S32x2048x8x128, .f32⟩
  | .hbm, ⟨66, _⟩ => ⟨S32x2048x1024, .f32⟩
  | .hbm, ⟨67, _⟩ => ⟨S32x2048x1024, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== Kernel2.lean ====
abbrev S152 : Shape := ⟨1, ![152]⟩
abbrev S77824x8x128 : Shape := ⟨3, ![77824, 8, 128]⟩
abbrev S77824x4x128 : Shape := ⟨3, ![77824, 4, 128]⟩
abbrev S16x1024x512 : Shape := ⟨3, ![16, 1024, 512]⟩
abbrev S16x512x1024 : Shape := ⟨3, ![16, 512, 1024]⟩
abbrev S512x8x128 : Shape := ⟨3, ![512, 8, 128]⟩
abbrev S512x4x128 : Shape := ⟨3, ![512, 4, 128]⟩
abbrev S1x1024x512 : Shape := ⟨3, ![1, 1024, 512]⟩
abbrev S1 : Shape := ⟨1, ![1]⟩
abbrev S1x512x1024 : Shape := ⟨3, ![1, 512, 1024]⟩
abbrev S512x512 : Shape := ⟨2, ![512, 512]⟩
abbrev S512x1024 : Shape := ⟨2, ![512, 1024]⟩
abbrev S512x1x128 : Shape := ⟨3, ![512, 1, 128]⟩
abbrev S512x128 : Shape := ⟨2, ![512, 128]⟩
abbrev S1024x512 : Shape := ⟨2, ![1024, 512]⟩
abbrev S512x1 : Shape := ⟨2, ![512, 1]⟩

abbrev nBuf : Space → Nat
  | .hbm => 6
  | .vmem => 18
  | .smem => 3
  | _ => 0

abbrev bufTy : (tb : Table) → Fin (tcTables nBuf tb) → BufTy
  | .hbm, ⟨0, _⟩ => ⟨S77824x8x128, .f32⟩
  | .hbm, ⟨1, _⟩ => ⟨S77824x4x128, .f32⟩
  | .hbm, ⟨2, _⟩ => ⟨S16x1024x512, .bf16⟩
  | .hbm, ⟨3, _⟩ => ⟨S16x1024x512, .bf16⟩
  | .hbm, ⟨4, _⟩ => ⟨S16x512x1024, .bf16⟩
  | .hbm, ⟨5, _⟩ => ⟨S77824x8x128, .f32⟩
  | .local _ .vmem, ⟨0, _⟩ => ⟨S512x8x128, .f32⟩
  | .local _ .vmem, ⟨1, _⟩ => ⟨S512x8x128, .f32⟩
  | .local _ .vmem, ⟨2, _⟩ => ⟨S512x4x128, .f32⟩
  | .local _ .vmem, ⟨3, _⟩ => ⟨S512x4x128, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x512x1024, .bf16⟩
  | .local _ .vmem, ⟨15, _⟩ => ⟨S1x512x1024, .bf16⟩
  | .local _ .vmem, ⟨16, _⟩ => ⟨S512x8x128, .f32⟩
  | .local _ .vmem, ⟨17, _⟩ => ⟨S512x8x128, .f32⟩
  | .local _ .smem, ⟨0, _⟩ => ⟨S152, .i32⟩
  | .local _ .smem, ⟨1, _⟩ => ⟨S152, .i32⟩
  | .local _ .smem, ⟨2, _⟩ => ⟨S152, .i32⟩
  | _, _ => ⟨S77824x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S152 : Shape := ⟨1, ![152]⟩
abbrev S77824x8x128 : Shape := ⟨3, ![77824, 8, 128]⟩
abbrev S77824x4x128 : Shape := ⟨3, ![77824, 4, 128]⟩
abbrev S16x1024x512 : Shape := ⟨3, ![16, 1024, 512]⟩
abbrev S16x512x1024 : Shape := ⟨3, ![16, 512, 1024]⟩
abbrev S77824x512 : Shape := ⟨2, ![77824, 512]⟩
abbrev S77824x1024 : Shape := ⟨2, ![77824, 1024]⟩
abbrev S77824x1x2 : Shape := ⟨3, ![77824, 1, 2]⟩
abbrev S77824x2 : Shape := ⟨2, ![77824, 2]⟩
abbrev S152x1 : Shape := ⟨2, ![152, 1]⟩
abbrev S152x512 : Shape := ⟨2, ![152, 512]⟩
abbrev S77824 : Shape := ⟨1, ![77824]⟩
abbrev S77824x1 : Shape := ⟨2, ![77824, 1]⟩
abbrev S77824x2x1 : Shape := ⟨3, ![77824, 2, 1]⟩
abbrev S1x1x16 : Shape := ⟨3, ![1, 1, 16]⟩
abbrev S77824x2x16 : Shape := ⟨3, ![77824, 2, 16]⟩
abbrev S77824x16 : Shape := ⟨2, ![77824, 16]⟩
abbrev S16x77824 : Shape := ⟨2, ![16, 77824]⟩
abbrev S16x512x77824 : Shape := ⟨3, ![16, 512, 77824]⟩
abbrev S16x77824x512 : Shape := ⟨3, ![16, 77824, 512]⟩
abbrev S_ : Shape := ⟨0, ![]⟩
abbrev S16x77824x1 : Shape := ⟨3, ![16, 77824, 1]⟩
abbrev S16x77824x1024 : Shape := ⟨3, ![16, 77824, 1024]⟩

abbrev nBuf : Space → Nat
  | .hbm => 67
  | .vmem => 0
  | .smem => 0
  | _ => 0

abbrev bufTy : (tb : Table) → Fin (tcTables nBuf tb) → BufTy
  | .hbm, ⟨0, _⟩ => ⟨S152, .i32⟩
  | .hbm, ⟨1, _⟩ => ⟨S152, .i32⟩
  | .hbm, ⟨2, _⟩ => ⟨S152, .i32⟩
  | .hbm, ⟨3, _⟩ => ⟨S77824x8x128, .f32⟩
  | .hbm, ⟨4, _⟩ => ⟨S77824x4x128, .f32⟩
  | .hbm, ⟨5, _⟩ => ⟨S16x1024x512, .bf16⟩
  | .hbm, ⟨6, _⟩ => ⟨S16x1024x512, .bf16⟩
  | .hbm, ⟨7, _⟩ => ⟨S16x512x1024, .bf16⟩
  | .hbm, ⟨8, _⟩ => ⟨S77824x4x128, .f32⟩
  | .hbm, ⟨9, _⟩ => ⟨S77824x512, .f32⟩
  | .hbm, ⟨10, _⟩ => ⟨S77824x512, .f32⟩
  | .hbm, ⟨11, _⟩ => ⟨S77824x1024, .f32⟩
  | .hbm, ⟨12, _⟩ => ⟨S77824x1x2, .f32⟩
  | .hbm, ⟨13, _⟩ => ⟨S77824x2, .f32⟩
  | .hbm, ⟨14, _⟩ => ⟨S16x1024x512, .f32⟩
  | .hbm, ⟨15, _⟩ => ⟨S16x1024x512, .f32⟩
  | .hbm, ⟨16, _⟩ => ⟨S16x512x1024, .f32⟩
  | .hbm, ⟨17, _⟩ => ⟨S152x1, .i32⟩
  | .hbm, ⟨18, _⟩ => ⟨S152x512, .i32⟩
  | .hbm, ⟨19, _⟩ => ⟨S77824, .i32⟩
  | .hbm, ⟨20, _⟩ => ⟨S152x1, .i32⟩
  | .hbm, ⟨21, _⟩ => ⟨S152x512, .i32⟩
  | .hbm, ⟨22, _⟩ => ⟨S77824, .i32⟩
  | .hbm, ⟨23, _⟩ => ⟨S77824x1, .i32⟩
  | .hbm, ⟨24, _⟩ => ⟨S77824x1, .i32⟩
  | .hbm, ⟨25, _⟩ => ⟨S77824x2, .i32⟩
  | .hbm, ⟨26, _⟩ => ⟨S77824x2x1, .i32⟩
  | .hbm, ⟨27, _⟩ => ⟨S1x1x16, .i32⟩
  | .hbm, ⟨28, _⟩ => ⟨S77824x2x16, .i32⟩
  | .hbm, ⟨29, _⟩ => ⟨S77824x2x16, .i32⟩
  | .hbm, ⟨30, _⟩ => ⟨S77824x2x16, .i1⟩
  | .hbm, ⟨31, _⟩ => ⟨S77824x2x16, .f32⟩
  | .hbm, ⟨32, _⟩ => ⟨S77824x16, .f32⟩
  | .hbm, ⟨33, _⟩ => ⟨S16x77824, .f32⟩
  | .hbm, ⟨34, _⟩ => ⟨S16x512x77824, .f32⟩
  | .hbm, ⟨35, _⟩ => ⟨S16x77824x512, .f32⟩
  | .hbm, ⟨36, _⟩ => ⟨S16x77824x512, .f32⟩
  | .hbm, ⟨37, _⟩ => ⟨S16x77824x512, .f32⟩
  | .hbm, ⟨38, _⟩ => ⟨S_, .f32⟩
  | .hbm, ⟨39, _⟩ => ⟨S16x77824x512, .f32⟩
  | .hbm, ⟨40, _⟩ => ⟨S16x77824x512, .f32⟩
  | .hbm, ⟨41, _⟩ => ⟨S_, .f32⟩
  | .hbm, ⟨42, _⟩ => ⟨S16x77824x512, .f32⟩
  | .hbm, ⟨43, _⟩ => ⟨S16x77824x512, .f32⟩
  | .hbm, ⟨44, _⟩ => ⟨S16x77824x512, .f32⟩
  | .hbm, ⟨45, _⟩ => ⟨S16x512x77824, .f32⟩
  | .hbm, ⟨46, _⟩ => ⟨S16x77824x512, .f32⟩
  | .hbm, ⟨47, _⟩ => ⟨S16x77824x512, .f32⟩
  | .hbm, ⟨48, _⟩ => ⟨S16x77824x1, .f32⟩
  | .hbm, ⟨49, _⟩ => ⟨S16x77824x1024, .f32⟩
  | .hbm, ⟨50, _⟩ => ⟨S16x77824x1024, .f32⟩
  | .hbm, ⟨51, _⟩ => ⟨S16x77824x1024, .f32⟩
  | .hbm, ⟨52, _⟩ => ⟨S_, .f32⟩
  | .hbm, ⟨53, _⟩ => ⟨S77824x1024, .f32⟩
  | .hbm, ⟨54, _⟩ => ⟨S152x1, .i32⟩
  | .hbm, ⟨55, _⟩ => ⟨S152x512, .i32⟩
  | .hbm, ⟨56, _⟩ => ⟨S77824, .i32⟩
  | .hbm, ⟨57, _⟩ => ⟨S_, .i32⟩
  | .hbm, ⟨58, _⟩ => ⟨S77824, .i32⟩
  | .hbm, ⟨59, _⟩ => ⟨S77824, .i1⟩
  | .hbm, ⟨60, _⟩ => ⟨S77824x1, .i1⟩
  | .hbm, ⟨61, _⟩ => ⟨S_, .f32⟩
  | .hbm, ⟨62, _⟩ => ⟨S_, .f32⟩
  | .hbm, ⟨63, _⟩ => ⟨S77824x1024, .i1⟩
  | .hbm, ⟨64, _⟩ => ⟨S77824x1024, .f32⟩
  | .hbm, ⟨65, _⟩ => ⟨S77824x1024, .f32⟩
  | .hbm, ⟨66, _⟩ => ⟨S77824x8x128, .f32⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_0 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v38 : Ref sig .tc := ⟨.hbm, 65, rfl⟩
abbrev main_v39 : Ref sig .tc := ⟨.hbm, 66, rfl⟩

abbrev nD : Nat := 1
abbrev τ : Topo := Topo.v7x

variable {F : FTy → Type} [FloatOps F]
-- ==== Kernel3.lean ====
abbrev S32x2048x1024 : Shape := ⟨3, ![32, 2048, 1024]⟩
abbrev S40x6x1024 : Shape := ⟨3, ![40, 6, 1024]⟩
abbrev S1x1024 : Shape := ⟨2, ![1, 1024]⟩
abbrev S1024x5632 : Shape := ⟨2, ![1024, 5632]⟩
abbrev S2048x128 : Shape := ⟨2, ![2048, 128]⟩
abbrev S32x2048x5632 : Shape := ⟨3, ![32, 2048, 5632]⟩
abbrev S1x1024x1024 : Shape := ⟨3, ![1, 1024, 1024]⟩
abbrev S1x6x1024 : Shape := ⟨3, ![1, 6, 1024]⟩
abbrev S1024x128 : Shape := ⟨2, ![1024, 128]⟩
abbrev S1x1024x5632 : Shape := ⟨3, ![1, 1024, 5632]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1024x512 : Shape := ⟨2, ![1024, 512]⟩
abbrev S1x128 : Shape := ⟨2, ![1, 128]⟩
abbrev S1x1024x512 : Shape := ⟨3, ![1, 1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S40x6x1024, .f32⟩
  | .hbm, ⟨2, _⟩ => ⟨S1x1024, .f32⟩
  | .hbm, ⟨3, _⟩ => ⟨S1024x5632, .bf16⟩
  | .hbm, ⟨4, _⟩ => ⟨S2048x128, .f32⟩
  | .hbm, ⟨5, _⟩ => ⟨S2048x128, .f32⟩
  | .hbm, ⟨6, _⟩ => ⟨S32x2048x5632, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5632, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1024x5632, .bf16⟩
  | .local _ .vmem, ⟨11, _⟩ => ⟨S1x1024x5632, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S32x2048x1024 : Shape := ⟨3, ![32, 2048, 1024]⟩
abbrev S40x6x1024 : Shape := ⟨3, ![40, 6, 1024]⟩
abbrev S1x1024 : Shape := ⟨2, ![1, 1024]⟩
abbrev S1024x5632 : Shape := ⟨2, ![1024, 5632]⟩
abbrev S2048x128 : Shape := ⟨2, ![2048, 128]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x1024 : Shape := ⟨2, ![32, 1024]⟩
abbrev S32x2048x5632 : Shape := ⟨3, ![32, 2048, 5632]⟩
abbrev S32x2048x2048 : Shape := ⟨3, ![32, 2048, 2048]⟩
abbrev S32x2048x64x32 : Shape := ⟨4, ![32, 2048, 64, 32]⟩
abbrev S1x2048x1x128 : Shape := ⟨4, ![1, 2048, 1, 128]⟩
abbrev S1x2048x16x128 : Shape := ⟨4, ![1, 2048, 16, 128]⟩
abbrev S2048x2048 : Shape := ⟨2, ![2048, 2048]⟩
abbrev S2048x64x32 : Shape := ⟨3, ![2048, 64, 32]⟩
abbrev S32x2048x64x16 : Shape := ⟨4, ![32, 2048, 64, 16]⟩
abbrev S1x2048x64x32 : Shape := ⟨4, ![1, 2048, 64, 32]⟩
abbrev S32x2048x512 : Shape := ⟨3, ![32, 2048, 512]⟩

abbrev nBuf : Space → Nat
  | .hbm => 72
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S40x6x1024, .f32⟩
  | .hbm, ⟨2, _⟩ => ⟨S1x1024, .f32⟩
  | .hbm, ⟨3, _⟩ => ⟨S1024x5632, .bf16⟩
  | .hbm, ⟨4, _⟩ => ⟨S2048x128, .f32⟩
  | .hbm, ⟨5, _⟩ => ⟨S2048x128, .f32⟩
  | .hbm, ⟨6, _⟩ => ⟨S1024, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S1x1x1024, .f32⟩
  | .hbm, ⟨21, _⟩ => ⟨S32x2048x1024, .f32⟩
  | .hbm, ⟨22, _⟩ => ⟨S32x2048x1024, .f32⟩
  | .hbm, ⟨23, _⟩ => ⟨S32x1x1024, .f32⟩
  | .hbm, ⟨24, _⟩ => ⟨S32x1024, .f32⟩
  | .hbm, ⟨25, _⟩ => ⟨S32x1x1024, .f32⟩
  | .hbm, ⟨26, _⟩ => ⟨S32x1x1024, .f32⟩
  | .hbm, ⟨27, _⟩ => ⟨S32x1024, .f32⟩
  | .hbm, ⟨28, _⟩ => ⟨S32x1x1024, .f32⟩
  | .hbm, ⟨29, _⟩ => ⟨S_, .f32⟩
  | .hbm, ⟨30, _⟩ => ⟨S32x1x1024, .f32⟩
  | .hbm, ⟨31, _⟩ => ⟨S32x1x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S1024x5632, .f32⟩
  | .hbm, ⟨37, _⟩ => ⟨S32x2048x5632, .f32⟩
  | .hbm, ⟨38, _⟩ => ⟨S32x2048x2048, .f32⟩
  | .hbm, ⟨39, _⟩ => ⟨S32x2048x64x32, .f32⟩
  | .hbm, ⟨40, _⟩ => ⟨S1x2048x1x128, .f32⟩
  | .hbm, ⟨41, _⟩ => ⟨S1x2048x16x128, .f32⟩
  | .hbm, ⟨42, _⟩ => ⟨S2048x2048, .f32⟩
  | .hbm, ⟨43, _⟩ => ⟨S2048x64x32, .f32⟩
  | .hbm, ⟨44, _⟩ => ⟨S1x2048x1x128, .f32⟩
  | .hbm, ⟨45, _⟩ => ⟨S1x2048x16x128, .f32⟩
  | .hbm, ⟨46, _⟩ => ⟨S2048x2048, .f32⟩
  | .hbm, ⟨47, _⟩ => ⟨S2048x64x32, .f32⟩
  | .hbm, ⟨48, _⟩ => ⟨S32x2048x64x16, .f32⟩
  | .hbm, ⟨49, _⟩ => ⟨S32x2048x64x16, .f32⟩
  | .hbm, ⟨50, _⟩ => ⟨S1x2048x64x32, .f32⟩
  | .hbm, ⟨51, _⟩ => ⟨S32x2048x64x32, .f32⟩
  | .hbm, ⟨52, _⟩ => ⟨S32x2048x64x32, .f32⟩
  | .hbm, ⟨53, _⟩ => ⟨S32x2048x64x32, .f32⟩
  | .hbm, ⟨54, _⟩ => ⟨S1x2048x64x32, .f32⟩
  | .hbm, ⟨55, _⟩ => ⟨S32x2048x64x32, .f32⟩
  | .hbm, ⟨56, _⟩ => ⟨S32x2048x64x32, .f32⟩
  | .hbm, ⟨57, _⟩ => ⟨S32x2048x64x32, .f32⟩
  | .hbm, ⟨58, _⟩ => ⟨S32x2048x2048, .f32⟩
  | .hbm, ⟨59, _⟩ => ⟨S32x2048x1024, .f32⟩
  | .hbm, ⟨60, _⟩ => ⟨S32x2048x2048, .f32⟩
  | .hbm, ⟨61, _⟩ => ⟨S32x2048x2048, .f32⟩
  | .hbm, ⟨62, _⟩ => ⟨S32x2048x2048, .f32⟩
  | .hbm, ⟨63, _⟩ => ⟨S_, .f32⟩
  | .hbm, ⟨64, _⟩ => ⟨S32x2048x2048, .f32⟩
  | .hbm, ⟨65, _⟩ => ⟨S32x2048x2048, .f32⟩
  | .hbm, ⟨66, _⟩ => ⟨S_, .f32⟩
  | .hbm, ⟨67, _⟩ => ⟨S32x2048x2048, .f32⟩
  | .hbm, ⟨68, _⟩ => ⟨S32x2048x2048, .f32⟩
  | .hbm, ⟨69, _⟩ => ⟨S32x2048x512, .f32⟩
  | .hbm, ⟨70, _⟩ => ⟨S32x2048x5632, .f32⟩
  | .hbm, ⟨71, _⟩ => ⟨S32x2048x5632, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_3 : Ref sig .tc := ⟨.hbm, 63, rfl⟩
abbrev main_v53 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== Kernel4.lean ====
abbrev S32x256x1024 : Shape := ⟨3, ![32, 256, 1024]⟩
abbrev S40x6x1024 : Shape := ⟨3, ![40, 6, 1024]⟩
abbrev S1x1024 : Shape := ⟨2, ![1, 1024]⟩
abbrev S1024x2048 : Shape := ⟨2, ![1024, 2048]⟩
abbrev S2048x128 : Shape := ⟨2, ![2048, 128]⟩
abbrev S32x256x2048 : Shape := ⟨3, ![32, 256, 2048]⟩
abbrev S1x256x1024 : Shape := ⟨3, ![1, 256, 1024]⟩
abbrev S1x6x1024 : Shape := ⟨3, ![1, 6, 1024]⟩
abbrev S256x128 : Shape := ⟨2, ![256, 128]⟩
abbrev S1x256x2048 : Shape := ⟨3, ![1, 256, 2048]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 7
  | .vmem => 9
  | .smem => 0
  | _ => 0

abbrev bufTy : (tb : Table) → Fin (tcTables nBuf tb) → BufTy
  | .hbm, ⟨0, _⟩ => ⟨S32x256x1024, .f32⟩
  | .hbm, ⟨1, _⟩ => ⟨S40x6x1024, .f32⟩
  | .hbm, ⟨2, _⟩ => ⟨S1x1024, .f32⟩
  | .hbm, ⟨3, _⟩ => ⟨S1024x2048, .bf16⟩
  | .hbm, ⟨4, _⟩ => ⟨S2048x128, .f32⟩
  | .hbm, ⟨5, _⟩ => ⟨S2048x128, .f32⟩
  | .hbm, ⟨6, _⟩ => ⟨S32x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x1024, .f32⟩
  | .local _ .vmem, ⟨4, _⟩ => ⟨S1024x2048, .bf16⟩
  | .local _ .vmem, ⟨5, _⟩ => ⟨S256x128, .f32⟩
  | .local _ .vmem, ⟨6, _⟩ => ⟨S256x128, .f32⟩
  | .local _ .vmem, ⟨7, _⟩ => ⟨S1x256x2048, .bf16⟩
  | .local _ .vmem, ⟨8, _⟩ => ⟨S1x256x2048, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let c0_i32_0 : BitVec 32 := 0#32
  let c0_i32_1 : BitVec 32 := 0#32
  ![c32_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S32x256x1024 : Shape := ⟨3, ![32, 256, 1024]⟩
abbrev S40x6x1024 : Shape := ⟨3, ![40, 6, 1024]⟩
abbrev S1x1024 : Shape := ⟨2, ![1, 1024]⟩
abbrev S1024x2048 : Shape := ⟨2, ![1024, 2048]⟩
abbrev S2048x128 : Shape := ⟨2, ![2048, 128]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x2048 : Shape := ⟨3, ![32, 256, 2048]⟩

abbrev nBuf : Space → Nat
  | .hbm => 39
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S40x6x1024, .f32⟩
  | .hbm, ⟨2, _⟩ => ⟨S1x1024, .f32⟩
  | .hbm, ⟨3, _⟩ => ⟨S1024x2048, .bf16⟩
  | .hbm, ⟨4, _⟩ => ⟨S2048x128, .f32⟩
  | .hbm, ⟨5, _⟩ => ⟨S2048x128, .f32⟩
  | .hbm, ⟨6, _⟩ => ⟨S1024, .f32⟩
  | .hbm, ⟨7, _⟩ => ⟨S32x256x1024, .f32⟩
  | .hbm, ⟨8, _⟩ => ⟨S_, .f32⟩
  | .hbm, ⟨9, _⟩ => ⟨S32x256, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S32x256x1, .f32⟩
  | .hbm, ⟨18, _⟩ => ⟨S32x256x1024, .f32⟩
  | .hbm, ⟨19, _⟩ => ⟨S32x256x1024, .f32⟩
  | .hbm, ⟨20, _⟩ => ⟨S1x1x1024, .f32⟩
  | .hbm, ⟨21, _⟩ => ⟨S32x256x1024, .f32⟩
  | .hbm, ⟨22, _⟩ => ⟨S32x256x1024, .f32⟩
  | .hbm, ⟨23, _⟩ => ⟨S1x1x1024, .f32⟩
  | .hbm, ⟨24, _⟩ => ⟨S1024, .f32⟩
  | .hbm, ⟨25, _⟩ => ⟨S1x1x1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S1024x2048, .f32⟩
  | .hbm, ⟨37, _⟩ => ⟨S32x256x2048, .f32⟩
  | .hbm, ⟨38, _⟩ => ⟨S32x256x2048, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel5.lean ====
abbrev S40x1024 : Shape := ⟨2, ![40, 1024]⟩
abbrev S1024x6144 : Shape := ⟨2, ![1024, 6144]⟩
abbrev S1x6144 : Shape := ⟨2, ![1, 6144]⟩
abbrev S40x6144 : Shape := ⟨2, ![40, 6144]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S1x6144, .f32⟩
  | .hbm, ⟨3, _⟩ => ⟨S40x6144, .f32⟩
  | .local _ .vmem, ⟨0, _⟩ => ⟨S40x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S40x1024 : Shape := ⟨2, ![40, 1024]⟩
abbrev S1024x6144 : Shape := ⟨2, ![1024, 6144]⟩
abbrev S1x6144 : Shape := ⟨2, ![1, 6144]⟩
abbrev S_ : Shape := ⟨0, ![]⟩
abbrev S40x6144 : Shape := ⟨2, ![40, 6144]⟩
abbrev S6144 : Shape := ⟨1, ![6144]⟩

abbrev nBuf : Space → Nat
  | .hbm => 17
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S1x6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S40x6144, .f32⟩
  | .hbm, ⟨13, _⟩ => ⟨S6144, .f32⟩
  | .hbm, ⟨14, _⟩ => ⟨S1x6144, .f32⟩
  | .hbm, ⟨15, _⟩ => ⟨S40x6144, .f32⟩
  | .hbm, ⟨16, _⟩ => ⟨S40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.AttnStep.lean ====
/- One step of the attention kernel: what a block of 256 queries of one head becomes, as a composition of the
   kernel's own vector operations. The printed body cuts the same operations into many payloads; here they are
   named once. -/
module

public import proofs.«01_k».proof.Proof.Gen.KernelIdeal.Skeleton

@[expose] public section

noncomputable section

namespace Cert.KernelIdeal.AttnValue

open Cert.KernelIdeal Cert.KernelIdeal.Gen Idealize.ShloMosaic

variable {F : FTy → Type} [FloatOps F]

/-- The scores of one map: the keys against the 256 queries whose lanes outside the map are set to zero. -/
def score (mask : IVec S1x128 1) (q : Vec F S1x256x128 .bf16) (k : Vec F S1x2304x128 .bf16) : FVec F S1x2304x256 .f32 :=
  shapeCast S1x2304x256
    (matmul dot_S2304x128_S256x128_S2304x256_1_1_0_0_n_n none (shapeCast S2304x128 k shapeCasts_S1x2304x128_S2304x128)
      (select (broadcastTo S256x128 (shapeCast S1x128 mask shapeCasts_S1x128_S1x128) broadcasts_S1x128_S256x128)
        (shapeCast S256x128 q shapeCasts_S1x256x128_S256x128) (broadcast S256x128 (Scalar.ofBits .bf16 0x0000#16 : F .bf16)))
      (constant S2304x256 .f32 0x00000000#32)) shapeCasts_S2304x256_S1x2304x256

/-- The values against the powers of two of the scores less their column's maximum: 128 rows of sums weighted by
    the values, then 16 rows of plain sums. -/
def sums (s : Vec F S1x2304x256 .f32) (vt : Vec F S1x144x2304 .bf16) : FVec F S144x256 .f32 :=
  matmul dot_S144x2304_S2304x256_S144x256_1_0_0_1_n_n none (shapeCast S144x2304 vt shapeCasts_S1x144x2304_S144x2304)
    (truncf .bf16 (exp2 (subf (shapeCast S2304x256 s shapeCasts_S1x2304x256_S2304x256)
      (broadcastTo S2304x256 (shapeCast S1x256 (multiReduction .maximumf [0] S256
        (shapeCast S2304x256 s shapeCasts_S1x2304x256_S2304x256) 0xFF800000#32 reduces_S2304x256_S256 (.inl rfl) rfl)
        shapeCasts_S256_S1x256) broadcasts_S1x256_S2304x256))) bitsLt_bf16_f32)
    (constant S144x256 .f32 0x00000000#32)

/-- One map's attention output, transposed: the weighted sums over the plain sum. -/
def ratio (s : Vec F S1x2304x256 .f32) (vt : Vec F S1x144x2304 .bf16) : FVec F S128x256 .f32 :=
  divf (extractStridedSlice S128x256 ![0, 0] (sums s vt) slices_S144x256_o0_0_S128x256)
    (broadcastTo S128x256 (extractStridedSlice S1x256 ![128, 0] (sums s vt) slices_S144x256_o128_0_S1x256)
      broadcasts_S1x256_S128x256)

/-- The head of a block of queries: the first map's output less lambda times the second's. -/
def head (lam : Elt F .f32) (s0 s1 : Vec F S1x2304x256 .f32) (vt : Vec F S1x144x2304 .bf16) : FVec F S256x128 .f32 :=
  transpose S256x128 [1, 0] (subf (ratio s0 vt) (mulf (broadcast S128x256 lam) (ratio s1 vt)))
    transposes_S128x256_p1_0_S256x128

/-- The head, each row over the root of its mean square, times the gain. -/
def normed (gain : FVec F S1x128 .f32) (h : FVec F S256x128 .f32) : FVec F S1x256x128 .bf16 :=
  shapeCast S1x256x128 (truncf .bf16 (mulf (mulf h (broadcastTo S256x128 (rsqrt (addf (divf
    (shapeCast S256x1 (multiReduction .add [1] S256 (mulf h h) 0x00000000#32 reduces_S256x128_S256 (.inl rfl) rfl)
      shapeCasts_S256_S256x1)
    (broadcast S256x1 (Scalar.ofBits .f32 0x43000000#32 : F .f32))) (broadcast S256x1 (Scalar.ofBits .f32 0x358637BD#32 : F .f32))))
    broadcasts_S256x1_S256x128)) (broadcastTo S256x128 gain broadcasts_S1x128_S256x128)) bitsLt_bf16_f32)
    shapeCasts_S256x128_S1x256x128

/-- What one step stores: 256 queries of one head against all keys and values of the head. -/
def step (lam : Elt F .f32) (g : Vec F S1x128 .f32) (q : Vec F S1x256x128 .bf16) (k : Vec F S1x2304x128 .bf16)
    (vt : Vec F S1x144x2304 .bf16) : FVec F S1x256x128 .bf16 :=
  normed (k0_pay15 g) (head lam (score k0_pay13 q k) (score k0_pay14 q k) vt)

end Cert.KernelIdeal.AttnValue

end
-- ==== Proof.AttnBlock.lean ====
/- What one grid point of the attention kernel stores: sixteen blocks, each one step over the keys and values that the
   body first gathers in its scratch buffers. -/
module

public import proofs.«01_k».proof.Proof.AttnStep
public import proofs.«01_k».proof.Proof.Gen.KernelIdeal.Value
public import Idealize.ShloMosaic.Lib.Pipeline.ReadBack
public import Idealize.ShloMosaic.Lib.Pointwise

@[expose] public section

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.Pipeline (Dat)

variable {F : FTy → Type} [FloatOps F]

/-- The keys of one head as the body gathers them: the context's first, then the sequence's. -/
def keysOf (kc : Vec F S1x256x128 .bf16) (kl : Vec F S1x2048x128 .bf16) : Vec F S1x2304x128 .bf16 := fun i =>
  if h : (i 1).val < 256 then kc (ix3 0 ⟨(i 1).val, h⟩ (i 2))
  else kl (ix3 0 ⟨(i 1).val - 256, by have h1 : (i 1).val < 2304 := (i 1).isLt; omega⟩ (i 2))

/-- The transposed values of one head as the body gathers them, and below them rows of ones. -/
def valsOf (vc : Vec F S1x128x256 .bf16) (vl : Vec F S1x128x2048 .bf16) (o : Vec F S1x16x2304 .bf16) : Vec F S1x144x2304 .bf16 :=
  fun i =>
    if h : (i 1).val < 128 then
      if h2 : (i 2).val < 256 then vc (ix3 0 ⟨(i 1).val, h⟩ ⟨(i 2).val, h2⟩)
      else vl (ix3 0 ⟨(i 1).val, h⟩ ⟨(i 2).val - 256, by have h1 : (i 2).val < 2304 := (i 2).isLt; omega⟩)
    else o (ix3 0 ⟨(i 1).val - 128, by have h1 : (i 1).val < 144 := (i 1).isLt; omega⟩ (i 2))

/-- Reading back a head's keys from the scratch buffer. -/
theorem readKeys (v : View sig .tc .vmem S2x2304x128 .bf16) (a : Nat) (i0 i1 i2)
    (kc : Vec F S1x256x128 .bf16) (kl : Vec F S1x2048x128 .bf16) (L : List (View.Piece (Elt F) S2x2304x128 .bf16)) :
    v.readCov (⟨Rect.unit ![a, 256, 0] S1x2048x128.size i0, kl⟩ :: ⟨Rect.unit ![a, 0, 0] S1x256x128.size i1, kc⟩ :: L)
      (Rect.unit (s := S2x2304x128) ![a, 0, 0] S1x2304x128.size i2).toLoadRect = keysOf kc kl := by
  rw [View.readCov_eq_canon']
  funext j
  unfold keysOf
  have h1 : (j 1).val < 2304 := (j 1).isLt
  have h0 : (j 0).val = 0 := by have : (j 0).val < 1 := (j 0).isLt; omega
  split
  · rename_i h
    rw [View.canon_cons_of_not_mem]
    · have e : (Rect.unit (s := S2x2304x128) ![a, 0, 0] S1x2304x128.size i2).toLoadRect.idx j
          = (Rect.unit (s := S2x2304x128) ![a, 0, 0] S1x256x128.size i1).emb (ix3 0 ⟨(j 1).val, h⟩ (j 2)) := by
        funext x; apply Fin.ext
        match x with
        | ⟨0, _⟩ => show a + 1 * (j 0).val = a + 1 * 0; omega
        | ⟨1, _⟩ => show 0 + 1 * (j 1).val = 0 + 1 * (j 1).val; omega
        | ⟨2, _⟩ => show 0 + 1 * (j 2).val = 0 + 1 * (j 2).val; omega
      rw [e]; exact View.canon_cons_emb (Rect.unit (s := S2x2304x128) ![a, 0, 0] S1x256x128.size i1) kc L _
    · rw [Rect.mem_set_unit]
      intro hh
      have := (hh 1).1
      change 256 ≤ 0 + 1 * (j 1).val at this
      omega
  · rename_i h
    have e : (Rect.unit (s := S2x2304x128) ![a, 0, 0] S1x2304x128.size i2).toLoadRect.idx j
        = (Rect.unit (s := S2x2304x128) ![a, 256, 0] S1x2048x128.size i0).emb (ix3 0 ⟨(j 1).val - 256, by omega⟩ (j 2)) := by
      funext x; apply Fin.ext
      match x with
      | ⟨0, _⟩ => show a + 1 * (j 0).val = a + 1 * 0; omega
      | ⟨1, _⟩ => show 0 + 1 * (j 1).val = 256 + 1 * ((j 1).val - 256); omega
      | ⟨2, _⟩ => show 0 + 1 * (j 2).val = 0 + 1 * (j 2).val; omega
    rw [e]; exact View.canon_cons_emb (Rect.unit (s := S2x2304x128) ![a, 256, 0] S1x2048x128.size i0) kl _ _

/-- Reading back a head's transposed values, and the rows of ones, from the scratch buffer. -/
theorem readVals (v : View sig .tc .vmem S2x144x2304 .bf16) (a : Nat) (i0 i1 i2 i3)
    (vc : Vec F S1x128x256 .bf16) (vl : Vec F S1x128x2048 .bf16) (o : Vec F S1x16x2304 .bf16)
    (L : List (View.Piece (Elt F) S2x144x2304 .bf16)) :
    v.readCov (⟨Rect.unit ![a, 128, 0] S1x16x2304.size i0, o⟩ :: ⟨Rect.unit ![a, 0, 256] S1x128x2048.size i1, vl⟩
        :: ⟨Rect.unit ![a, 0, 0] S1x128x256.size i2, vc⟩ :: L)
      (Rect.unit (s := S2x144x2304) ![a, 0, 0] S1x144x2304.size i3).toLoadRect = valsOf vc vl o := by
  rw [View.readCov_eq_canon']
  funext j
  unfold valsOf
  have h1 : (j 1).val < 144 := (j 1).isLt
  have h2 : (j 2).val < 2304 := (j 2).isLt
  have h0 : (j 0).val = 0 := by have : (j 0).val < 1 := (j 0).isLt; omega
  split
  · rename_i h
    rw [View.canon_cons_of_not_mem]
    · split
      · rename_i h'
        rw [View.canon_cons_of_not_mem]
        · have e : (Rect.unit (s := S2x144x2304) ![a, 0, 0] S1x144x2304.size i3).toLoadRect.idx j
              = (Rect.unit (s := S2x144x2304) ![a, 0, 0] S1x128x256.size i2).emb (ix3 0 ⟨(j 1).val, h⟩ ⟨(j 2).val, h'⟩) := by
            funext x; apply Fin.ext
            match x with
            | ⟨0, _⟩ => show a + 1 * (j 0).val = a + 1 * 0; omega
            | ⟨1, _⟩ => show 0 + 1 * (j 1).val = 0 + 1 * (j 1).val; omega
            | ⟨2, _⟩ => show 0 + 1 * (j 2).val = 0 + 1 * (j 2).val; omega
          rw [e]; exact View.canon_cons_emb (Rect.unit (s := S2x144x2304) ![a, 0, 0] S1x128x256.size i2) vc L _
        · rw [Rect.mem_set_unit]
          intro hh
          have := (hh 2).1
          change 256 ≤ 0 + 1 * (j 2).val at this
          omega
      · rename_i h'
        have e : (Rect.unit (s := S2x144x2304) ![a, 0, 0] S1x144x2304.size i3).toLoadRect.idx j
            = (Rect.unit (s := S2x144x2304) ![a, 0, 256] S1x128x2048.size i1).emb (ix3 0 ⟨(j 1).val, h⟩ ⟨(j 2).val - 256, by omega⟩) := by
          funext x; apply Fin.ext
          match x with
          | ⟨0, _⟩ => show a + 1 * (j 0).val = a + 1 * 0; omega
          | ⟨1, _⟩ => show 0 + 1 * (j 1).val = 0 + 1 * (j 1).val; omega
          | ⟨2, _⟩ => show 0 + 1 * (j 2).val = 256 + 1 * ((j 2).val - 256); omega
        rw [e]; exact View.canon_cons_emb (Rect.unit (s := S2x144x2304) ![a, 0, 256] S1x128x2048.size i1) vl _ _
    · rw [Rect.mem_set_unit]
      intro hh
      have := (hh 1).1
      change 128 ≤ 0 + 1 * (j 1).val at this
      omega
  · rename_i h
    have e : (Rect.unit (s := S2x144x2304) ![a, 0, 0] S1x144x2304.size i3).toLoadRect.idx j
        = (Rect.unit (s := S2x144x2304) ![a, 128, 0] S1x16x2304.size i0).emb (ix3 0 ⟨(j 1).val - 128, by omega⟩ (j 2)) := by
      funext x; apply Fin.ext
      match x with
      | ⟨0, _⟩ => show a + 1 * (j 0).val = a + 1 * 0; omega
      | ⟨1, _⟩ => show 0 + 1 * (j 1).val = 128 + 1 * ((j 1).val - 128); omega
      | ⟨2, _⟩ => show 0 + 1 * (j 2).val = 0 + 1 * (j 2).val; omega
    rw [e]; exact View.canon_cons_emb (Rect.unit (s := S2x144x2304) ![a, 128, 0] S1x16x2304.size i0) o _ _

end Cert.KernelIdeal.AttnValue

end
-- ==== Proof.AttnRun.lean ====
/- The sixteen blocks that a grid point of the attention kernel stores, each named as one step. -/
module

public import proofs.«01_k».proof.Proof.AttnBlock

@[expose] public section

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.Pipeline (Dat)

variable {F : FTy → Type} [FloatOps F]

/-- The rectangle of the context's block that holds head `h`'s 128 lanes. -/
def ctxRect (h : Fin 2) : Rect S1x256x256 := Rect.unit ![0, 0, 128 * h.val] S1x256x128.size (by
  revert h; decide +kernel)

/-- The rectangle of the sequence's block that holds head `h`'s 128 lanes. -/
def seqRect (h : Fin 2) : Rect S1x2048x256 := Rect.unit ![0, 0, 128 * h.val] S1x2048x128.size (by
  revert h; decide +kernel)

/-- The rectangle of the sequence's block that holds queries `256 j … 256 j + 255` of head `h`. -/
def stepRect (h : Fin 2) (j : Fin 8) : Rect S1x2048x256 := Rect.unit ![0, 256 * j.val, 128 * h.val] S1x256x128.size (by
  revert h j; decide +kernel)

/-- The keys of head `h` of the block. -/
def keys (x2 : Vec F S1x2048x256 .bf16) (x4 : Vec F S1x256x256 .bf16) (h : Fin 2) : Vec F S1x2304x128 .bf16 :=
  keysOf (k0_pay2 (View.ld x4 (ctxRect h))) (k0_pay3 (View.ld x2 (seqRect h)))

/-- The transposed values of head `h` of the block, and the ones. -/
def vals (x3 : Vec F S1x2048x256 .bf16) (x5 : Vec F S1x256x256 .bf16) (h : Fin 2) : Vec F S1x144x2304 .bf16 :=
  valsOf (k0_pay4 (View.ld x5 (ctxRect h))) (k0_pay5 (View.ld x3 (seqRect h))) (k0_pay7 k0_pay6)

/-- What the step at queries `256 j …` of head `h` stores. -/
def stepAt (x0 : Vec F S1 .f32) (x1 x2 x3 : Vec F S1x2048x256 .bf16) (x4 x5 : Vec F S1x256x256 .bf16) (x6 : Vec F S1x128 .f32)
    (h : Fin 2) (j : Fin 8) : FVec F S1x256x128 .bf16 :=
  step (View.ld x0 (Rect.unit ![0] S1.size inb_S1_S1_0) (Shape.Idx.first (by decide))) (View.ld x6 (Rect.unit ![0, 0] S1x128.size inb_S1x128_S1x128_0_0))
    (View.ld x1 (stepRect h j)) (keys x2 x4 h) (vals x3 x5 h)

/-- The block that a grid point leaves, as one function of the block's index. -/
def blockOut (x0 : Vec F S1 .f32) (x1 x2 x3 : Vec F S1x2048x256 .bf16) (x4 x5 : Vec F S1x256x256 .bf16) (x6 : Vec F S1x128 .f32) :
    Vec F S1x2048x256 .bf16 := fun y =>
  stepAt x0 x1 x2 x3 x4 x5 x6 ⟨(y 2).val / 128, by have h : (y 2).val < 256 := (y 2).isLt; omega⟩
    ⟨(y 1).val / 256, by have h : (y 1).val < 2048 := (y 1).isLt; omega⟩
    (ix3 0 ⟨(y 1).val % 256, by omega⟩ ⟨(y 2).val % 128, by omega⟩)

/-- A step's block is the part of `blockOut` at its rectangle. -/
theorem stepAt_eq (x0 : Vec F S1 .f32) (x1 x2 x3 : Vec F S1x2048x256 .bf16) (x4 x5 : Vec F S1x256x256 .bf16) (x6 : Vec F S1x128 .f32)
    (h : Fin 2) (j : Fin 8) (x : S1x256x128.Idx) :
    stepAt x0 x1 x2 x3 x4 x5 x6 h j x = blockOut x0 x1 x2 x3 x4 x5 x6 ((stepRect h j).emb x) := by
  have e0 : (x 0).val < 1 := (x 0).isLt
  have e1 : (x 1).val < 256 := (x 1).isLt
  have e2 : (x 2).val < 128 := (x 2).isLt
  have a1 : ((stepRect h j).emb x 1).val = 256 * j.val + (x 1).val := by
    show 256 * j.val + 1 * (x 1).val = _; omega
  have a2 : ((stepRect h j).emb x 2).val = 128 * h.val + (x 2).val := by
    show 128 * h.val + 1 * (x 2).val = _; omega
  unfold blockOut
  have b1 : (⟨((stepRect h j).emb x 2).val / 128, by have h : ((stepRect h j).emb x 2).val < 256 := ((stepRect h j).emb x 2).isLt; omega⟩ : Fin 2) = h :=
    Fin.ext (by show ((stepRect h j).emb x 2).val / 128 = _; omega)
  have b2 : (⟨((stepRect h j).emb x 1).val / 256, by have h : ((stepRect h j).emb x 1).val < 2048 := ((stepRect h j).emb x 1).isLt; omega⟩ : Fin 8) = j :=
    Fin.ext (by show ((stepRect h j).emb x 1).val / 256 = _; omega)
  rw [b1, b2]
  congr 1
  funext a; apply Fin.ext
  match a with
  | ⟨0, _⟩ => show (x 0).val = 0; omega
  | ⟨1, _⟩ => show (x 1).val = ((stepRect h j).emb x 1).val % 256; omega
  | ⟨2, _⟩ => show (x 2).val = ((stepRect h j).emb x 2).val % 128; omega

/-- The rectangle and the block of one step. -/
def pieceAt (x0 : Vec F S1 .f32) (x1 x2 x3 : Vec F S1x2048x256 .bf16) (x4 x5 : Vec F S1x256x256 .bf16) (x6 : Vec F S1x128 .f32)
    (h : Fin 2) (j : Fin 8) : View.Piece (Elt F) S1x2048x256 .bf16 := ⟨stepRect h j, stepAt x0 x1 x2 x3 x4 x5 x6 h j⟩

/-- A grid point's stores, last first: the sixteen steps. -/
theorem run_pieces (c : Dev nD) (i : grid0.Coords) (arg2 : Memref sig .tc .smem S1 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x128 .f32) (harg8 : arg8.IsWhole) (arg9 : Memref sig .tc .vmem S1x2048x256 .bf16) (harg9 : arg9.IsWhole) (arg10 : Memref sig .tc .vmem S2x2304x128 .bf16) (harg10 : arg10.IsWhole) (arg11 : Memref sig .tc .vmem S2x144x2304 .bf16) (harg11 : arg11.IsWhole) (arg12 : Memref sig .tc .vmem S2x2304x256 .f32) (harg12 : arg12.IsWhole) (arg13 : Memref sig .tc .vmem S2x2304x256 .f32) (harg13 : arg13.IsWhole) (arg14 : Memref sig .tc .vmem S2x2304x256 .f32) (harg14 : arg14.IsWhole)
    (x0 : Vec F S1 .f32) (x1 : Vec F S1x2048x256 .bf16) (x2 : Vec F S1x2048x256 .bf16) (x3 : Vec F S1x2048x256 .bf16) (x4 : Vec F S1x256x256 .bf16) (x5 : Vec F S1x256x256 .bf16) (x6 : Vec F S1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1
      = [pieceAt x0 x1 x2 x3 x4 x5 x6 1 7, pieceAt x0 x1 x2 x3 x4 x5 x6 1 6, pieceAt x0 x1 x2 x3 x4 x5 x6 1 5, pieceAt x0 x1 x2 x3 x4 x5 x6 1 4,
         pieceAt x0 x1 x2 x3 x4 x5 x6 1 3, pieceAt x0 x1 x2 x3 x4 x5 x6 1 2, pieceAt x0 x1 x2 x3 x4 x5 x6 1 1, pieceAt x0 x1 x2 x3 x4 x5 x6 1 0,
         pieceAt x0 x1 x2 x3 x4 x5 x6 0 7, pieceAt x0 x1 x2 x3 x4 x5 x6 0 6, pieceAt x0 x1 x2 x3 x4 x5 x6 0 5, pieceAt x0 x1 x2 x3 x4 x5 x6 0 4,
         pieceAt x0 x1 x2 x3 x4 x5 x6 0 3, pieceAt x0 x1 x2 x3 x4 x5 x6 0 2, pieceAt x0 x1 x2 x3 x4 x5 x6 0 1, pieceAt x0 x1 x2 x3 x4 x5 x6 0 0] := by
  unfold kernelRun0_A
  dsimp only
  sl_unfold_words
  have hs : ∀ {S : Shape} {e : EltTy} {sp : Space} (v : View sig .tc sp S e) (r : Rect S) (w : r.shape.Idx → Elt F e) (L) (B : LoadRect S)
    (h : LoadRect.disj r B = true), v.readCov (⟨r, w⟩ :: L) B = v.readCov L B := fun v r w L B h => View.readCov_skip v r w L B h
  simp (disch := decide +kernel) only [↓View.readCov_cons_toLoadRect, ↓readKeys, ↓readVals, ↓hs, View.readAt_eq_ld,
    Memref.IsWhole.read_unread]
  rfl

/-- A grid point leaves `blockOut` of its input blocks in the output's buffer. -/
theorem out_eq (c : Dev nD) (i : grid0.Coords) (arg2 : Memref sig .tc .smem S1 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x128 .f32) (harg8 : arg8.IsWhole) (arg9 : Memref sig .tc .vmem S1x2048x256 .bf16) (harg9 : arg9.IsWhole) (arg10 : Memref sig .tc .vmem S2x2304x128 .bf16) (harg10 : arg10.IsWhole) (arg11 : Memref sig .tc .vmem S2x144x2304 .bf16) (harg11 : arg11.IsWhole) (arg12 : Memref sig .tc .vmem S2x2304x256 .f32) (harg12 : arg12.IsWhole) (arg13 : Memref sig .tc .vmem S2x2304x256 .f32) (harg13 : arg13.IsWhole) (arg14 : Memref sig .tc .vmem S2x2304x256 .f32) (harg14 : arg14.IsWhole)
    (x0 : Vec F S1 .f32) (x1 : Vec F S1x2048x256 .bf16) (x2 : Vec F S1x2048x256 .bf16) (x3 : Vec F S1x2048x256 .bf16) (x4 : Vec F S1x256x256 .bf16) (x5 : Vec F S1x256x256 .bf16) (x6 : Vec F S1x128 .f32) :
    (out0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6) = blockOut x0 x1 x2 x3 x4 x5 x6 := by
  unfold out0_A_7
  rw [View.read_writes_junk_eq_canon, run_pieces]
  funext y
  have hy0 : (y 0).val < 1 := (y 0).isLt
  have hy1 : (y 1).val < 2048 := (y 1).isLt
  have hy2 : (y 2).val < 256 := (y 2).isLt
  refine View.canon_apply_of_pieces (blockOut x0 x1 x2 x3 x4 x5 x6) _ (fun p hp x => ?_) y ?_
  · simp only [List.mem_cons, List.not_mem_nil, or_false] at hp
    rcases hp with rfl | rfl | rfl | rfl | rfl | rfl | rfl | rfl | rfl | rfl | rfl | rfl | rfl | rfl | rfl | rfl <;>
      exact stepAt_eq x0 x1 x2 x3 x4 x5 x6 _ _ x
  · have hm : ∀ (h : Fin 2) (j : Fin 8), 128 * h.val ≤ (y 2).val → (y 2).val < 128 * h.val + 128 → 256 * j.val ≤ (y 1).val →
        (y 1).val < 256 * j.val + 256 → y ∈ (pieceAt x0 x1 x2 x3 x4 x5 x6 h j).1.set := by
      intro h j a b c d
      show y ∈ (stepRect h j).set
      unfold stepRect
      rw [Rect.mem_set_unit]
      intro a
      match a with
      | ⟨0, _⟩ => exact ⟨Nat.zero_le _, (by show (y 0).val < 0 + 1; omega)⟩
      | ⟨1, _⟩ => exact ⟨(by show 256 * j.val ≤ (y 1).val; omega), (by show (y 1).val < 256 * j.val + 256; omega)⟩
      | ⟨2, _⟩ => exact ⟨(by show 128 * h.val ≤ (y 2).val; omega), (by show (y 2).val < 128 * h.val + 128; omega)⟩
    have hex : ∃ (h : Fin 2) (j : Fin 8), y ∈ (pieceAt x0 x1 x2 x3 x4 x5 x6 h j).1.set :=
      ⟨⟨(y 2).val / 128, by omega⟩, ⟨(y 1).val / 256, by omega⟩, hm _ _ (by show 128 * ((y 2).val / 128) ≤ _; omega)
        (by show _ < 128 * ((y 2).val / 128) + 128; omega) (by show 256 * ((y 1).val / 256) ≤ _; omega)
        (by show _ < 256 * ((y 1).val / 256) + 256; omega)⟩
    obtain ⟨h, j, hj⟩ := hex
    refine ⟨pieceAt x0 x1 x2 x3 x4 x5 x6 h j, ?_, hj⟩
    fin_cases h <;> fin_cases j <;> simp

end Cert.KernelIdeal.AttnValue

end
-- ==== Proof.AttnMath.lean ====
/- The equation of differential attention on real scores: the difference of two quotients of sums is the sum against the
   difference of two softmax rows, and powers of two of scores are exponentials of the scores times the logarithm of two. -/
module

public import Idealize.ShloMosaic.PureOps
public import Idealize.ShloMosaic.Lib.Pointwise

@[expose] public section

set_option maxRecDepth 16384

noncomputable section

namespace Cert.AttnMath

open Idealize.ShloMosaic

/-- The coercion of the reals commutes with finite sums. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The fold of `max` from minus infinity over at least one real is a real. -/
theorem fold_max_real {ι : Type} [Fintype ι] [Nonempty ι] (f : ι → ℝ) :
    ∃ m : ℝ, Finset.fold max (⊥ : EReal) (fun x => (f x : EReal)) Finset.univ = (m : EReal) := by
  classical
  have key : ∀ s : Finset ι, s = ∅ ∨ ∃ m : ℝ, Finset.fold max (⊥ : EReal) (fun x => (f x : EReal)) s = (m : EReal) := by
    intro s
    induction s using Finset.induction_on with
    | empty => exact Or.inl rfl
    | insert a s ha ih =>
      right
      rw [Finset.fold_insert ha]
      rcases ih with h | ⟨m, h⟩
      · subst h; exact ⟨f a, by simp⟩
      · exact ⟨max (f a) m, by rw [h]; exact (EReal.coe_strictMono.monotone.map_max).symm⟩
  rcases key Finset.univ with h | h
  · exact absurd h (Finset.univ_nonempty.ne_empty)
  · exact h

/-- The bits of minus infinity. -/
theorem ofBits_neg_inf : Ideal.ofBits FTy.f32 4286578688#32 = (⊥ : EReal) := by
  simp [Ideal.ofBits, Ideal.ieee]

/-- The bits of two. -/
theorem ofBits_two : Ideal.ofBits FTy.f32 1073741824#32 = ((2 : ℝ) : EReal) := by
  simp [Ideal.ofBits, Ideal.ieee, -EReal.coe_mul]; norm_num

/-- The logarithm of two is a real. -/
theorem log_two : Ideal.log ((2 : ℝ) : EReal) = (Real.log 2 : EReal) := by
  rw [Ideal.log_coe, if_neg (by norm_num)]

variable {ι : Type} [Fintype ι] [Nonempty ι]

/-- The kernel's quotient for one map: the sum of the values, weighted by powers of two, over the sum of the powers. -/
def quot (s v : ι → EReal) : EReal :=
  Ideal.div (∑ x, v x * Ideal.exp2 (s x - Finset.fold max (⊥ : EReal) s Finset.univ))
    (∑ x, 1 * Ideal.exp2 (s x - Finset.fold max (⊥ : EReal) s Finset.univ))

/-- One entry of the softmax of a row. -/
def soft (s : ι → EReal) (k : ι) : EReal :=
  Ideal.div (Ideal.exp (s k - max (⊥ : EReal) (Finset.fold max (⊥ : EReal) s Finset.univ)))
    (∑ x, Ideal.exp (s x - max (⊥ : EReal) (Finset.fold max (⊥ : EReal) s Finset.univ)))

theorem sum_pow_pos (s : ι → ℝ) : 0 < ∑ x, (2 : ℝ) ^ s x :=
  Finset.sum_pos (fun x _ => Real.rpow_pos_of_pos (by norm_num) _) Finset.univ_nonempty

/-- On reals the kernel's quotient does not depend on the maximum. -/
theorem quot_coe (s v : ι → ℝ) : quot (fun x => (s x : EReal)) (fun x => (v x : EReal))
    = (((∑ x, v x * (2 : ℝ) ^ s x) / (∑ x, (2 : ℝ) ^ s x) : ℝ) : EReal) := by
  obtain ⟨m, hm⟩ := fold_max_real s
  unfold quot
  rw [hm]
  have e : ∀ x, Ideal.exp2 ((s x : EReal) - (m : EReal)) = (((2 : ℝ) ^ s x * (2 : ℝ) ^ (-m) : ℝ) : EReal) := by
    intro x
    rw [← EReal.coe_sub, Ideal.exp2_coe]
    congr 1
    rw [← Real.rpow_add (by norm_num), sub_eq_add_neg]; rfl
  simp only [e, one_mul, ← EReal.coe_mul]
  rw [← coe_sum, ← coe_sum, ← Finset.sum_mul]
  have hp := sum_pow_pos s
  have h2 : (0 : ℝ) < (2 : ℝ) ^ (-m) := Real.rpow_pos_of_pos (by norm_num) _
  rw [Ideal.div_coe (by positivity), ← EReal.coe_mul]
  congr 1
  have : (∑ x, v x * ((2 : ℝ) ^ s x * (2 : ℝ) ^ (-m))) = (∑ x, v x * (2 : ℝ) ^ s x) * (2 : ℝ) ^ (-m) := by
    rw [Finset.sum_mul]; exact Finset.sum_congr rfl fun x _ => by ring
  rw [this]
  field_simp

/-- On reals, scaled by the logarithm of two, the softmax entry is the power of two over the sum of the powers. -/
theorem soft_coe (s : ι → ℝ) (k : ι) : soft (fun x => (s x : EReal) * (Real.log 2 : EReal)) k
    = (((2 : ℝ) ^ s k / (∑ x, (2 : ℝ) ^ s x) : ℝ) : EReal) := by
  obtain ⟨m, hm⟩ := fold_max_real (fun x => s x * Real.log 2)
  unfold soft
  simp only [← EReal.coe_mul]
  rw [hm, max_eq_right bot_le]
  have e : ∀ x, Ideal.exp (((s x * Real.log 2 : ℝ) : EReal) - (m : EReal)) = (((2 : ℝ) ^ s x * Real.exp (-m) : ℝ) : EReal) := by
    intro x
    rw [← EReal.coe_sub, Ideal.exp_coe]
    congr 1
    rw [Real.rpow_def_of_pos (by norm_num), ← Real.exp_add]
    congr 1; ring
  simp only [e]
  rw [← coe_sum, ← Finset.sum_mul]
  have hp := sum_pow_pos s
  have h2 := Real.exp_pos (-m)
  rw [Ideal.div_coe (by positivity), ← EReal.coe_mul]
  congr 1
  field_simp

/-- The equation of the layer: on real scores, values and weight, the difference of the two quotients is the sum of the
    values against the difference of the two softmax rows. -/
theorem head_eq (s0 s1 v : ι → EReal) (l : EReal) (h0 : ∀ x, ∃ r : ℝ, s0 x = r) (h1 : ∀ x, ∃ r : ℝ, s1 x = r)
    (hv : ∀ x, ∃ r : ℝ, v x = r) (hl : ∃ r : ℝ, l = r) :
    quot s0 v - l * quot s1 v
      = ∑ k, v k * (soft (fun x => s0 x * (Real.log 2 : EReal)) k - l * soft (fun x => s1 x * (Real.log 2 : EReal)) k) := by
  choose r0 e0 using h0
  choose r1 e1 using h1
  choose rv ev using hv
  obtain ⟨rl, rfl⟩ := hl
  obtain rfl : s0 = fun x => (r0 x : EReal) := funext e0
  obtain rfl : s1 = fun x => (r1 x : EReal) := funext e1
  obtain rfl : v = fun x => (rv x : EReal) := funext ev
  rw [quot_coe, quot_coe]
  simp only [soft_coe]
  simp only [← EReal.coe_mul, ← EReal.coe_sub]
  rw [← coe_sum]
  congr 1
  simp only [mul_sub, Finset.sum_sub_distrib]
  congr 1
  · rw [Finset.sum_div]; exact Finset.sum_congr rfl fun x _ => by ring
  · rw [Finset.sum_div, Finset.mul_sum]; exact Finset.sum_congr rfl fun x _ => by ring

/-- A sum of products of reals is a real. -/
theorem sum_mul_real {κ : Type} [Fintype κ] (f g : κ → EReal) (hf : ∀ x, ∃ r : ℝ, f x = r) (hg : ∀ x, ∃ r : ℝ, g x = r) :
    ∃ r : ℝ, ∑ x, f x * g x = r := by
  choose rf ef using hf
  choose rg eg using hg
  exact ⟨∑ x, rf x * rg x, by rw [coe_sum]; exact Finset.sum_congr rfl fun x _ => by rw [ef, eg, EReal.coe_mul]⟩

/-- The sum over 128 lanes with the upper 64 masked out is the sum over the lower 64. -/
theorem sum_low (f : Fin 128 → EReal) :
    (∑ x : Fin 128, Scalar.select (IntOp.cmpi CmpIPredicate.slt (BitVec.ofNat 32 x.val) 64#32) (f x) 0)
      = ∑ x : Fin 64, f ⟨x.val, by omega⟩ := by
  have a : ∀ x : Fin 64, IntOp.cmpi CmpIPredicate.slt (BitVec.ofNat 32 x.val) 64#32 = 1#1 := by decide +kernel
  have b : ∀ x : Fin 64, IntOp.cmpi CmpIPredicate.slt (BitVec.ofNat 32 (64 + x.val)) 64#32 = 0#1 := by decide +kernel
  rw [show (∑ x : Fin 128, Scalar.select (IntOp.cmpi CmpIPredicate.slt (BitVec.ofNat 32 x.val) 64#32) (f x) 0)
    = ∑ x : Fin (64 + 64), Scalar.select (IntOp.cmpi CmpIPredicate.slt (BitVec.ofNat 32 x.val) 64#32) (f x) 0 from rfl, Fin.sum_univ_add]
  simp only [Fin.val_castAdd, Fin.val_natAdd, a, b]
  simp [Scalar.select]
  rfl

/-- The sum over 128 lanes with the lower 64 masked out is the sum over the upper 64. -/
theorem sum_high (f : Fin 128 → EReal) :
    (∑ x : Fin 128, Scalar.select (IntOp.cmpi CmpIPredicate.sge (BitVec.ofNat 32 x.val) 64#32) (f x) 0)
      = ∑ x : Fin 64, f ⟨64 + x.val, by omega⟩ := by
  have a : ∀ x : Fin 64, IntOp.cmpi CmpIPredicate.sge (BitVec.ofNat 32 x.val) 64#32 = 0#1 := by decide +kernel
  have b : ∀ x : Fin 64, IntOp.cmpi CmpIPredicate.sge (BitVec.ofNat 32 (64 + x.val)) 64#32 = 1#1 := by decide +kernel
  rw [show (∑ x : Fin 128, Scalar.select (IntOp.cmpi CmpIPredicate.sge (BitVec.ofNat 32 x.val) 64#32) (f x) 0)
    = ∑ x : Fin (64 + 64), Scalar.select (IntOp.cmpi CmpIPredicate.sge (BitVec.ofNat 32 x.val) 64#32) (f x) 0 from rfl, Fin.sum_univ_add]
  simp only [Fin.val_castAdd, Fin.val_natAdd, a, b]
  simp [Scalar.select]
  rfl

end Cert.AttnMath

end
-- ==== Proof.AttnRead.lean ====
/- A grid point's block read at an index: the two quotients of a head and their norm. -/
module

public import proofs.«01_k».proof.Proof.AttnRun
public import proofs.«01_k».proof.Proof.AttnMath
public import Idealize.ShloMosaic.Lib.Pointwise

@[expose] public section

set_option maxRecDepth 16384

noncomputable section

namespace Cert.KernelIdeal.AttnValue

open Cert.KernelIdeal Cert.KernelIdeal.Gen Idealize.ShloMosaic Idealize.ShloMosaic.TcCoe Idealize.SL.Sem
open Cert.AttnMath

/-- The key of head `h`, row `k`, lane `x` in a block. -/
def keyB (x2 : FVec Ideal S1x2048x256 .bf16) (x4 : FVec Ideal S1x256x256 .bf16) (h : Fin 2) (k : Fin 2304) (x : Fin 128) : EReal :=
  if hk : k.val < 256 then x4 (ix3 0 ⟨k.val, hk⟩ ⟨128 * h.val + x.val, by omega⟩)
  else x2 (ix3 0 ⟨k.val - 256, by omega⟩ ⟨128 * h.val + x.val, by omega⟩)

/-- The query of head `h`, row `i`, lane `x` in a block. -/
def queryB (x1 : FVec Ideal S1x2048x256 .bf16) (h : Fin 2) (i : Fin 2048) (x : Fin 128) : EReal :=
  x1 (ix3 0 i ⟨128 * h.val + x.val, by omega⟩)

/-- The score of row `i` against key row `k` in head `h`, map 0: the head's lower 64 lanes. -/
def dotsLow (x1 x2 : FVec Ideal S1x2048x256 .bf16) (x4 : FVec Ideal S1x256x256 .bf16) (h : Fin 2) (i : Fin 2048) (k : Fin 2304) : EReal :=
  ∑ x : Fin 64, queryB x1 h i ⟨x.val, by omega⟩ * keyB x2 x4 h k ⟨x.val, by omega⟩

/-- The score of row `i` against key row `k` in head `h`, map 1: the head's upper 64 lanes. -/
def dotsHigh (x1 x2 : FVec Ideal S1x2048x256 .bf16) (x4 : FVec Ideal S1x256x256 .bf16) (h : Fin 2) (i : Fin 2048) (k : Fin 2304) : EReal :=
  ∑ x : Fin 64, queryB x1 h i ⟨64 + x.val, by omega⟩ * keyB x2 x4 h k ⟨64 + x.val, by omega⟩

/-- The head's output before its norm, in a block. -/
def headB (x0 : FVec Ideal S1 .f32) (x1 x2 x3 : FVec Ideal S1x2048x256 .bf16) (x4 x5 : FVec Ideal S1x256x256 .bf16)
    (h : Fin 2) (i : Fin 2048) (e : Fin 128) : EReal :=
  quot (dotsLow x1 x2 x4 h i) (fun k => keyB x3 x5 h k e) - x0 (ix1 0) * quot (dotsHigh x1 x2 x4 h i) (fun k => keyB x3 x5 h k e)

/-- The head's norm and gain, as the kernel associates them. -/
def normB (g f : Fin 128 → EReal) (e : Fin 128) : EReal :=
  f e * Ideal.rsqrt (Ideal.div (∑ x, f x * f x) (Ideal.ofBits FTy.f32 1124073472#32) + Ideal.ofBits FTy.f32 897988541#32)
    * (g e * Ideal.ofBits FTy.f32 1061997773#32)

theorem keys_at (x2 : FVec Ideal S1x2048x256 .bf16) (x4 : FVec Ideal S1x256x256 .bf16) (h : Fin 2) (k : Fin 2304) (x : Fin 128) :
    keys (F := Ideal) x2 x4 h (ix3 0 k x) = keyB x2 x4 h k x := by
  pointwise [keys, keysOf, k0_pay2, k0_pay3, ctxRect, seqRect]
  rfl

theorem vals_at (x3 : FVec Ideal S1x2048x256 .bf16) (x5 : FVec Ideal S1x256x256 .bf16) (h : Fin 2) (e : Fin 128) (k : Fin 2304) :
    vals (F := Ideal) x3 x5 h (ix3 0 ⟨e.val, by omega⟩ k) = keyB x3 x5 h k e := by
  have he : e.val < 128 := e.isLt
  pointwise [vals, valsOf, k0_pay4, k0_pay5, k0_pay6, k0_pay7, ctxRect, seqRect]
  rfl

theorem ones_at (x3 : FVec Ideal S1x2048x256 .bf16) (x5 : FVec Ideal S1x256x256 .bf16) (h : Fin 2) (k : Fin 2304) :
    vals (F := Ideal) x3 x5 h (ix3 0 128 k) = (1 : EReal) := by
  pointwise [vals, valsOf, k0_pay4, k0_pay5, k0_pay6, k0_pay7, ctxRect, seqRect]

theorem low_at (q : FVec Ideal S1x256x128 .bf16) (k : FVec Ideal S1x2304x128 .bf16) (a : Fin 2304) (b : Fin 256) :
    score (F := Ideal) k0_pay13 q k (ix3 0 a b) = ∑ x : Fin 64, q (ix3 0 b ⟨x.val, by omega⟩) * k (ix3 0 a ⟨x.val, by omega⟩) := by
  have h : score (F := Ideal) k0_pay13 q k (ix3 0 a b) = ∑ x : Fin 128,
      Scalar.select (IntOp.cmpi CmpIPredicate.slt (BitVec.ofNat 32 x.val) 64#32) (k (ix3 0 a x) * q (ix3 0 b x)) (0 : EReal) := by
    pointwise [score, k0_pay13]
  rw [h, sum_low (fun x => k (ix3 0 a x) * q (ix3 0 b x))]
  exact Finset.sum_congr rfl fun x _ => mul_comm _ _

theorem high_at (q : FVec Ideal S1x256x128 .bf16) (k : FVec Ideal S1x2304x128 .bf16) (a : Fin 2304) (b : Fin 256) :
    score (F := Ideal) k0_pay14 q k (ix3 0 a b) = ∑ x : Fin 64, q (ix3 0 b ⟨64 + x.val, by omega⟩) * k (ix3 0 a ⟨64 + x.val, by omega⟩) := by
  have h : score (F := Ideal) k0_pay14 q k (ix3 0 a b) = ∑ x : Fin 128,
      Scalar.select (IntOp.cmpi CmpIPredicate.sge (BitVec.ofNat 32 x.val) 64#32) (k (ix3 0 a x) * q (ix3 0 b x)) (0 : EReal) := by
    pointwise [score, k0_pay14]
  rw [h, sum_high (fun x => k (ix3 0 a x) * q (ix3 0 b x))]
  exact Finset.sum_congr rfl fun x _ => mul_comm _ _

/-- The quotient of the values' row by the ones' row. -/
theorem ratio_at (s : FVec Ideal S1x2304x256 .f32) (vt : FVec Ideal S1x144x2304 .bf16) (e : Fin 128) (b : Fin 256)
    (h1 : ∀ k, vt (ix3 0 128 k) = (1 : EReal)) :
    ratio (F := Ideal) s vt (ix2 e b) = quot (fun k => s (ix3 0 k b)) (fun k => vt (ix3 0 ⟨e.val, by omega⟩ k)) := by
  pointwise [ratio, sums]
  simp only [h1, ofBits_neg_inf]
  rfl

/-- What a step stores, at an index. -/
theorem step_at (lam : Ideal .f32) (g : FVec Ideal S1x128 .f32) (q : FVec Ideal S1x256x128 .bf16) (k : FVec Ideal S1x2304x128 .bf16)
    (vt : FVec Ideal S1x144x2304 .bf16) (a : Fin 256) (e : Fin 128) :
    step (F := Ideal) lam g q k vt (ix3 0 a e) = normB (fun e => g (ix2 0 e))
      (fun e => head (F := Ideal) lam (score (F := Ideal) k0_pay13 q k) (score (F := Ideal) k0_pay14 q k) vt (ix2 a e)) e := by
  unfold step
  generalize head (F := Ideal) lam (score (F := Ideal) k0_pay13 q k) (score (F := Ideal) k0_pay14 q k) vt = y
  pointwise [normed, k0_pay15]
  rfl

/-- A head before its norm is the difference of its two quotients. -/
theorem head_at (lam : Ideal .f32) (s0 s1 : FVec Ideal S1x2304x256 .f32) (vt : FVec Ideal S1x144x2304 .bf16) (a : Fin 256) (e : Fin 128) :
    head (F := Ideal) lam s0 s1 vt (ix2 a e) = ratio (F := Ideal) s0 vt (ix2 e a) - lam * ratio (F := Ideal) s1 vt (ix2 e a) := by
  pointwise [head]

/-- The queries of a step. -/
def qBlock (x1 : FVec Ideal S1x2048x256 .bf16) (h : Fin 2) (j : Fin 8) : FVec Ideal S1x256x128 .bf16 :=
  View.ld (Val := Elt Ideal) (e' := .bf16) x1 (stepRect h j)

/-- The gain of a step. -/
def gBlock (x6 : FVec Ideal S1x128 .f32) : FVec Ideal S1x128 .f32 :=
  View.ld (Val := Elt Ideal) (e' := .f32) x6 (Rect.unit ![0, 0] S1x128.size inb_S1x128_S1x128_0_0)

theorem qBlock_at (x1 : FVec Ideal S1x2048x256 .bf16) (h : Fin 2) (i : Fin 2048) (x : Fin 128) :
    qBlock x1 h ⟨i.val / 256, by omega⟩ (ix3 0 ⟨i.val % 256, by omega⟩ x) = queryB x1 h i x := by
  pointwise [qBlock, stepRect]
  unfold queryB
  congr 2
  apply Fin.ext
  show 256 * (i.val / 256) + i.val % 256 = i.val
  omega

theorem gBlock_at (x6 : FVec Ideal S1x128 .f32) (e : Fin 128) : gBlock x6 (ix2 0 e) = x6 (ix2 0 e) := by
  pointwise [gBlock]

/-- A grid point's block at an index. -/
theorem blockOut_at (x0 : FVec Ideal S1 .f32) (x1 x2 x3 : FVec Ideal S1x2048x256 .bf16) (x4 x5 : FVec Ideal S1x256x256 .bf16)
    (x6 : FVec Ideal S1x128 .f32) (i : Fin 2048) (c : Fin 256) :
    blockOut (F := Ideal) x0 x1 x2 x3 x4 x5 x6 (ix3 0 i c)
      = normB (fun e => x6 (ix2 0 e)) (headB x0 x1 x2 x3 x4 x5 ⟨c.val / 128, by omega⟩ i) ⟨c.val % 128, by omega⟩ := by
  have el : (View.ld (Val := Elt Ideal) (e' := .f32) x0 (Rect.unit ![0] S1.size inb_S1_S1_0) (Shape.Idx.first (by decide)) : EReal) = x0 (ix1 0) := by
    show x0 _ = x0 _
    congr 1
    funext a
    match a with
    | ⟨0, _⟩ => rfl
  show step (F := Ideal) (View.ld (Val := Elt Ideal) (e' := .f32) x0 (Rect.unit ![0] S1.size inb_S1_S1_0) (Shape.Idx.first (by decide)))
    (gBlock x6) (qBlock x1 ⟨c.val / 128, by omega⟩ ⟨i.val / 256, by omega⟩)
    (keys x2 x4 ⟨c.val / 128, by omega⟩) (vals x3 x5 ⟨c.val / 128, by omega⟩)
    (ix3 0 ⟨i.val % 256, by omega⟩ ⟨c.val % 128, by omega⟩) = _
  rw [step_at]
  generalize (⟨c.val / 128, by omega⟩ : Fin 2) = h
  have eh : ∀ e : Fin 128, head (F := Ideal) (View.ld (Val := Elt Ideal) (e' := .f32) x0 (Rect.unit ![0] S1.size inb_S1_S1_0) (Shape.Idx.first (by decide)))
      (score (F := Ideal) k0_pay13 (qBlock x1 h ⟨i.val / 256, by omega⟩) (keys x2 x4 h))
      (score (F := Ideal) k0_pay14 (qBlock x1 h ⟨i.val / 256, by omega⟩) (keys x2 x4 h))
      (vals x3 x5 h) (ix2 ⟨i.val % 256, by omega⟩ e) = headB x0 x1 x2 x3 x4 x5 h i e := by
    intro e
    rw [head_at, ratio_at _ _ _ _ (ones_at x3 x5 h), ratio_at _ _ _ _ (ones_at x3 x5 h), el]
    simp only [low_at, high_at, vals_at, keys_at, qBlock_at]
    rfl
  simp only [gBlock_at]
  exact congrArg (fun f => normB (fun e => x6 (ix2 0 e)) f ⟨c.val % 128, by omega⟩) (funext eh)

end Cert.KernelIdeal.AttnValue

end
-- ==== Proof.AttnRef.lean ====
/- The reference's attention read at an index, stage by stage. -/
module

public import proofs.«01_k».proof.Proof.Gen.ReferenceIdeal.Read
public import proofs.«01_k».proof.Proof.AttnMath
public import Idealize.ShloMosaic.Lib.Pointwise

@[expose] public section

set_option maxRecDepth 16384

noncomputable section

namespace Cert.ReferenceIdeal.AttnRef

open Cert.ReferenceIdeal Cert.ReferenceIdeal.Gen Cert.ReferenceIdeal.Read Idealize.ShloMosaic Idealize.ShloMosaic.TcCoe Idealize.SL.Sem
open Cert.AttnMath

variable (x0 : FVec Ideal S1 .f32) (x1 : FVec Ideal S32x2048x5632 .bf16) (x2 : FVec Ideal S32x256x2048 .bf16) (x3 : FVec Ideal S1x128 .f32)

/-- The query of row `i`, lane `x` of the 1024 query lanes. -/
def query (b : Fin 32) (i : Fin 2048) (x : Fin 1024) : EReal := x1 (ix3 b i ⟨x.val, by omega⟩)

/-- The key of row `k` (context first, then the sequence), lane `x` of 1024. -/
def key (b : Fin 32) (k : Fin 2304) (x : Fin 1024) : EReal :=
  if h : k.val < 256 then x2 (ix3 b ⟨k.val, h⟩ ⟨x.val, by omega⟩)
  else x1 (ix3 b ⟨k.val - 256, by omega⟩ ⟨1024 + x.val, by omega⟩)

/-- The value of row `k`, lane `x` of 1024. -/
def value (b : Fin 32) (k : Fin 2304) (x : Fin 1024) : EReal :=
  if h : k.val < 256 then x2 (ix3 b ⟨k.val, h⟩ ⟨1024 + x.val, by omega⟩)
  else x1 (ix3 b ⟨k.val - 256, by omega⟩ ⟨2048 + x.val, by omega⟩)

/-- The score of query row `i` against key row `k`, map `mp` of head `h`. -/
def dots (b : Fin 32) (h : Fin 8) (mp : Fin 2) (i : Fin 2048) (k : Fin 2304) : EReal :=
  ∑ x : Fin 64, query x1 b i ⟨h.val * 128 + mp.val * 64 + x.val, by omega⟩ * key x1 x2 b k ⟨h.val * 128 + mp.val * 64 + x.val, by omega⟩

theorem v8_at (b : Fin 32) (k : Fin 2304) (h : Fin 8) (mp : Fin 2) (d : Fin 64) :
    val_main_v8 (F := Ideal) x1 x2 (ix5 b k h mp d) = key x1 x2 b k ⟨h.val * 128 + mp.val * 64 + d.val, by omega⟩ := by
  pointwise [val_main_v8, val_main_v7, val_main_v6, val_main_v5, val_main_v2, val_main_v1, val_main_v0]
  rfl

theorem v12_at (b : Fin 32) (k : Fin 2304) (h : Fin 8) (e : Fin 128) :
    val_main_v12 (F := Ideal) x1 x2 (ix4 b k h e) = value x1 x2 b k ⟨h.val * 128 + e.val, by omega⟩ := by
  pointwise [val_main_v12, val_main_v11, val_main_v10, val_main_v9, val_main_v2, val_main_v1, val_main_v0]
  rfl

theorem v16_at (b : Fin 32) (h : Fin 8) (mp : Fin 2) (i : Fin 2048) (k : Fin 2304) :
    val_main_v16 (F := Ideal) x1 x2 (ix5 b h mp i k) = dots x1 x2 b h mp i k * (Real.log 2 : EReal) := by
  pointwise [val_main_v16, val_main_v15, val_main_v14, val_main_cst, val_main_v13, val_main_v4, val_main_v3, val_main_v1, val_main_v0]
  rw [ofBits_two, log_two]
  simp only [v8_at]
  rfl

/-- The maximum of a row of scores. -/
theorem v19_at (b : Fin 32) (h : Fin 8) (mp : Fin 2) (i : Fin 2048) :
    val_main_v19 (F := Ideal) x1 x2 (ix4 b h mp i)
      = max (⊥ : EReal) (Finset.fold max (⊥ : EReal) (fun k => dots x1 x2 b h mp i k * (Real.log 2 : EReal)) Finset.univ) := by
  have e17 : val_main_v17 (F := Ideal) x1 x2 (ix4 b h mp i)
      = Finset.fold max (⊥ : EReal) (fun k => dots x1 x2 b h mp i k * (Real.log 2 : EReal)) Finset.univ := by
    pointwise [val_main_v17, val_main_cst_0]
    simp only [v16_at, ofBits_neg_inf]
  have e18 : val_main_v18 (F := Ideal) (ix4 b h mp i) = (⊥ : EReal) := by
    pointwise [val_main_v18, val_main_cst_1]
    exact ofBits_neg_inf
  rw [val_main_v19_apply, e17, e18]
  rfl

/-- The exponential of a score less the row's maximum. -/
theorem v23_at (b : Fin 32) (h : Fin 8) (mp : Fin 2) (i : Fin 2048) (k : Fin 2304) :
    val_main_v23 (F := Ideal) x1 x2 (ix5 b h mp i k)
      = Ideal.exp (dots x1 x2 b h mp i k * (Real.log 2 : EReal)
        - max (⊥ : EReal) (Finset.fold max (⊥ : EReal) (fun k => dots x1 x2 b h mp i k * (Real.log 2 : EReal)) Finset.univ)) := by
  have e21 : val_main_v21 (F := Ideal) x1 x2 (ix5 b h mp i k) = val_main_v19 (F := Ideal) x1 x2 (ix4 b h mp i) := by
    pointwise [val_main_v21, val_main_v20]
  rw [val_main_v23_apply, val_main_v22_apply, v16_at, e21, v19_at]
  rfl

/-- A softmax entry. -/
theorem v27_at (b : Fin 32) (h : Fin 8) (mp : Fin 2) (i : Fin 2048) (k : Fin 2304) :
    val_main_v27 (F := Ideal) x1 x2 (ix5 b h mp i k)
      = soft (fun k => dots x1 x2 b h mp i k * (Real.log 2 : EReal)) k := by
  have e26 : val_main_v26 (F := Ideal) x1 x2 (ix5 b h mp i k) = val_main_v24 (F := Ideal) x1 x2 (ix4 b h mp i) := by
    pointwise [val_main_v26, val_main_v25]
  have e24 : val_main_v24 (F := Ideal) x1 x2 (ix4 b h mp i) = ∑ x, val_main_v23 (F := Ideal) x1 x2 (ix5 b h mp i x) := by
    pointwise [val_main_v24, val_main_cst_2]
  rw [val_main_v27_apply, e26, e24]
  simp only [v23_at]
  rfl

/-- The head's output before its norm. -/
def headR (b : Fin 32) (i : Fin 2048) (h : Fin 8) (e : Fin 128) : EReal :=
  ∑ k, value x1 x2 b k ⟨h.val * 128 + e.val, by omega⟩
    * (soft (fun k => dots x1 x2 b h 0 i k * (Real.log 2 : EReal)) k
      - x0 (ix1 0) * soft (fun k => dots x1 x2 b h 1 i k * (Real.log 2 : EReal)) k)

theorem v35_at (b : Fin 32) (h : Fin 8) (i : Fin 2048) (k : Fin 2304) :
    val_main_v35 (F := Ideal) x0 x1 x2 (ix4 b h i k)
      = soft (fun k => dots x1 x2 b h 0 i k * (Real.log 2 : EReal)) k
      - x0 (ix1 0) * soft (fun k => dots x1 x2 b h 1 i k * (Real.log 2 : EReal)) k := by
  have e29 : val_main_v29 (F := Ideal) x1 x2 (ix4 b h i k) = val_main_v27 (F := Ideal) x1 x2 (ix5 b h 0 i k) := by
    pointwise [val_main_v29, val_main_v28]
  have e32 : val_main_v32 (F := Ideal) x1 x2 (ix4 b h i k) = val_main_v27 (F := Ideal) x1 x2 (ix5 b h 1 i k) := by
    pointwise [val_main_v32, val_main_v31]
  have e33 : val_main_v33 (F := Ideal) x0 (ix4 b h i k) = x0 (ix1 0) := by
    pointwise [val_main_v33, val_main_v30]
  rw [val_main_v35_apply, val_main_v34_apply, e29, e32, e33, v27_at, v27_at]
  rfl

theorem v37_at (b : Fin 32) (i : Fin 2048) (h : Fin 8) (e : Fin 128) :
    val_main_v37 (F := Ideal) x0 x1 x2 (ix4 b i h e) = headR x0 x1 x2 b i h e := by
  have e36 : val_main_v36 (F := Ideal) x0 x1 x2 (ix4 b h e i)
      = ∑ x, val_main_v12 (F := Ideal) x1 x2 (ix4 b x h e) * val_main_v35 (F := Ideal) x0 x1 x2 (ix4 b h i x) := by
    pointwise [val_main_v36]
  have e37 : val_main_v37 (F := Ideal) x0 x1 x2 (ix4 b i h e) = val_main_v36 (F := Ideal) x0 x1 x2 (ix4 b h e i) := by
    pointwise [val_main_v37]
  rw [e37, e36]
  simp only [v12_at, v35_at]
  rfl

/-- The norm of a head's output and its gain, at one lane. -/
def normR (g : Fin 128 → EReal) (f : Fin 128 → EReal) (e : Fin 128) : EReal :=
  f e * Ideal.rsqrt (Ideal.div (∑ x, f x * f x) (Ideal.ofBits FTy.f32 1124073472#32) + Ideal.ofBits FTy.f32 897988541#32)
    * g e * Ideal.ofBits FTy.f32 1061997773#32

theorem v53_at (b : Fin 32) (i : Fin 2048) (h : Fin 8) (e : Fin 128) :
    val_main_v53 (F := Ideal) x0 x1 x2 x3 (ix4 b i h e)
      = normR (fun e => x3 (ix2 0 e)) (headR x0 x1 x2 b i h) e := by
  have e52 : val_main_v52 (F := Ideal) (ix4 b i h e) = Ideal.ofBits FTy.f32 1061997773#32 := by
    pointwise [val_main_v52, val_main_cst_6]
  have e50 : val_main_v50 (F := Ideal) x3 (ix4 b i h e) = x3 (ix2 0 e) := by
    pointwise [val_main_v50, val_main_v49, val_main_v38]
  have e47 : val_main_v47 (F := Ideal) x0 x1 x2 (ix4 b i h e)
      = Ideal.rsqrt (Ideal.div (val_main_v40 (F := Ideal) x0 x1 x2 (ix3 b i h)) (Ideal.ofBits FTy.f32 1124073472#32)
        + Ideal.ofBits FTy.f32 897988541#32) := by
    pointwise [val_main_v47, val_main_v46, val_main_v45, val_main_v44, val_main_v43, val_main_v42, val_main_v41, val_main_cst_4, val_main_cst_5]
  have e40 : val_main_v40 (F := Ideal) x0 x1 x2 (ix3 b i h) = ∑ x, val_main_v39 (F := Ideal) x0 x1 x2 (ix4 b i h x) := by
    pointwise [val_main_v40, val_main_cst_3]
  rw [val_main_v53_apply, val_main_v51_apply, val_main_v48_apply, e52, e50, e47, e40]
  simp only [val_main_v39_apply, v37_at]
  rfl

/-- The reference's result at an index. -/
theorem v55_at (b : Fin 32) (i : Fin 2048) (c : Fin 1024) :
    val_main_v55 (F := Ideal) x0 x1 x2 x3 (ix3 b i c)
      = normR (fun e => x3 (ix2 0 e)) (headR x0 x1 x2 b i ⟨c.val / 128, by omega⟩) ⟨c.val % 128, by omega⟩ := by
  have e : val_main_v55 (F := Ideal) x0 x1 x2 x3 (ix3 b i c)
      = val_main_v53 (F := Ideal) x0 x1 x2 x3 (ix4 b i ⟨c.val / 128, by omega⟩ ⟨c.val % 128, by omega⟩) := by
    pointwise [val_main_v55, val_main_v54]
  rw [e, v53_at]

end Cert.ReferenceIdeal.AttnRef

end
-- ==== Proof.AttnArray.lean ====
/- The kernel's result array: at every index, the difference of two quotients of the head there, and its norm. -/
module

public import proofs.«01_k».proof.Proof.Gen.KernelIdeal.Value
public import proofs.«01_k».proof.Proof.AttnRead
public import proofs.«01_k».proof.Proof.AttnRef
public import Idealize.ShloMosaic.Lib.Pipeline.ValueKit

@[expose] public section

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.Pipeline (Dat)
open Cert.AttnMath Cert.ReferenceIdeal.AttnRef

/-- A head's output before its norm, over the whole arrays: the difference of two quotients. -/
def headK (a0 : FVec Ideal S1 .f32) (a1 : FVec Ideal S32x2048x5632 .bf16) (a2 : FVec Ideal S32x256x2048 .bf16)
    (b : Fin 32) (i : Fin 2048) (h : Fin 8) (e : Fin 128) : EReal :=
  quot (dots a1 a2 b h 0 i) (fun k => value a1 a2 b k ⟨h.val * 128 + e.val, by omega⟩)
    - a0 (ix1 0) * quot (dots a1 a2 b h 1 i) (fun k => value a1 a2 b k ⟨h.val * 128 + e.val, by omega⟩)

/-- The kernel's result as a function of its arguments. -/
def attnOut (a0 : FVec Ideal S1 .f32) (a1 : FVec Ideal S32x2048x5632 .bf16) (a2 : FVec Ideal S32x256x2048 .bf16)
    (a3 : FVec Ideal S1x128 .f32) : FVec Ideal S32x2048x1024 .bf16 := fun y =>
  normB (fun e => a3 (ix2 0 e)) (headK a0 a1 a2 (y 0) (y 1)
    ⟨(y 2).val / 128, by have h : (y 2).val < 1024 := (y 2).isLt; omega⟩) ⟨(y 2).val % 128, by omega⟩

variable (m : (ℓ : Loc nD τ sig) → Buf (Elt Ideal) ℓ)

/-- The blocks of a grid point: a batch entry and two heads of the queries, keys, values and the result. -/
theorem idx (t : Fin cfg0.N) : win0_0.index t = ![0] ∧ win0_1.index t = ![(grid0.coords t 0).val, 0, (grid0.coords t 1).val]
    ∧ win0_2.index t = ![(grid0.coords t 0).val, 0, 4 + (grid0.coords t 1).val]
    ∧ win0_3.index t = ![(grid0.coords t 0).val, 0, 8 + (grid0.coords t 1).val]
    ∧ win0_4.index t = ![(grid0.coords t 0).val, 0, (grid0.coords t 1).val]
    ∧ win0_5.index t = ![(grid0.coords t 0).val, 0, 4 + (grid0.coords t 1).val]
    ∧ win0_6.index t = ![0, 0]
    ∧ win0_7.index t = ![(grid0.coords t 0).val, 0, (grid0.coords t 1).val] :=
  (by decide +kernel : ∀ t : Fin grid0.N, win0_0.index t = ![0] ∧ win0_1.index t = ![(grid0.coords t 0).val, 0, (grid0.coords t 1).val]
    ∧ win0_2.index t = ![(grid0.coords t 0).val, 0, 4 + (grid0.coords t 1).val]
    ∧ win0_3.index t = ![(grid0.coords t 0).val, 0, 8 + (grid0.coords t 1).val]
    ∧ win0_4.index t = ![(grid0.coords t 0).val, 0, (grid0.coords t 1).val]
    ∧ win0_5.index t = ![(grid0.coords t 0).val, 0, 4 + (grid0.coords t 1).val]
    ∧ win0_6.index t = ![0, 0]
    ∧ win0_7.index t = ![(grid0.coords t 0).val, 0, (grid0.coords t 1).val]) t

/-- The batch entry of a grid point. -/
def batch (t : Fin cfg0.N) : Fin 32 := ⟨(grid0.coords t 0).val, (grid0.coords t 0).isLt⟩

/-- The head that is number `h` of a grid point's two. -/
def headOf (t : Fin cfg0.N) (h : Fin 2) : Fin 8 :=
  ⟨2 * (grid0.coords t 1).val + h.val, by have h : (grid0.coords t 1).val < 4 := (grid0.coords t 1).isLt; omega⟩

theorem lamB_eq (c : Dev nD) (t : Fin cfg0.N) :
    (iblk m c 0 t : FVec Ideal S1 .f32) = m ((c : Thread nD τ).loc main_arg0) := by
  funext j
  blk_ext [iblk, V, idx t]

theorem gainB_eq (c : Dev nD) (t : Fin cfg0.N) :
    (iblk m c 6 t : FVec Ideal S1x128 .f32) = m ((c : Thread nD τ).loc main_arg3) := by
  funext j
  blk_ext [iblk, V, idx t]

theorem queryB_eq (c : Dev nD) (t : Fin cfg0.N) (h : Fin 2) (i : Fin 2048) (x : Fin 128) :
    queryB (iblk m c 1 t) h i x
      = query (m ((c : Thread nD τ).loc main_arg1)) (batch t) i ⟨(headOf t h).val * 128 + x.val, by omega⟩ := by
  unfold queryB query batch headOf
  blk_ext [iblk, V, idx t]

theorem keyB_eq (c : Dev nD) (t : Fin cfg0.N) (h : Fin 2) (k : Fin 2304) (x : Fin 128) :
    keyB (iblk m c 2 t) (iblk m c 4 t) h k x
      = key (m ((c : Thread nD τ).loc main_arg1)) (m ((c : Thread nD τ).loc main_arg2)) (batch t) k ⟨(headOf t h).val * 128 + x.val, by omega⟩ := by
  unfold keyB key batch headOf
  split
  · blk_ext [iblk, V, idx t]
  · blk_ext [iblk, V, idx t]

theorem valB_eq (c : Dev nD) (t : Fin cfg0.N) (h : Fin 2) (k : Fin 2304) (x : Fin 128) :
    keyB (iblk m c 3 t) (iblk m c 5 t) h k x
      = value (m ((c : Thread nD τ).loc main_arg1)) (m ((c : Thread nD τ).loc main_arg2)) (batch t) k ⟨(headOf t h).val * 128 + x.val, by omega⟩ := by
  unfold keyB value batch headOf
  split
  · blk_ext [iblk, V, idx t]
  · blk_ext [iblk, V, idx t]

/-- The head of a block is the head of the arrays. -/
theorem headB_eq (c : Dev nD) (t : Fin cfg0.N) (h : Fin 2) (i : Fin 2048) (e : Fin 128) :
    headB (iblk m c 0 t) (iblk m c 1 t) (iblk m c 2 t) (iblk m c 3 t) (iblk m c 4 t) (iblk m c 5 t) h i e
      = headK (m ((c : Thread nD τ).loc main_arg0)) (m ((c : Thread nD τ).loc main_arg1)) (m ((c : Thread nD τ).loc main_arg2))
          (batch t) i (headOf t h) e := by
  have el : dotsLow (iblk m c 1 t) (iblk m c 2 t) (iblk m c 4 t) h i
      = dots (m ((c : Thread nD τ).loc main_arg1)) (m ((c : Thread nD τ).loc main_arg2)) (batch t) (headOf t h) 0 i := by
    funext k
    unfold dotsLow dots
    refine Finset.sum_congr rfl fun x _ => ?_
    rw [queryB_eq, keyB_eq]
    rfl
  have eh : dotsHigh (iblk m c 1 t) (iblk m c 2 t) (iblk m c 4 t) h i
      = dots (m ((c : Thread nD τ).loc main_arg1)) (m ((c : Thread nD τ).loc main_arg2)) (batch t) (headOf t h) 1 i := by
    funext k
    unfold dotsHigh dots
    refine Finset.sum_congr rfl fun x _ => ?_
    rw [queryB_eq, keyB_eq]
    have q : ∀ (x : Fin 64), (⟨(headOf t h).val * 128 + (64 + x.val), by omega⟩ : Fin 1024)
        = ⟨(headOf t h).val * 128 + (1 : Fin 2).val * 64 + x.val, by have : (1 : Fin 2).val = 1 := rfl; omega⟩ := by
      intro x; apply Fin.ext; show (headOf t h).val * 128 + (64 + x.val) = (headOf t h).val * 128 + 1 * 64 + x.val; omega
    exact congrArg (fun z => query (m ((c : Thread nD τ).loc main_arg1)) (batch t) i z
      * key (m ((c : Thread nD τ).loc main_arg1)) (m ((c : Thread nD τ).loc main_arg2)) (batch t) k z) (q x)
  unfold headB headK
  rw [el, eh, lamB_eq]
  simp only [valB_eq]

/-- The kernel's result array after the run. -/
theorem array_eq (c : Dev nD) : (dats m 0 c).arrAt 7 cfg0.N
    = attnOut (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t hf y => ?_
  blk_simp
  rw [after0_7]
  unfold outsAt0
  rw [out_eq]
  have hy1 : (y 1).val < 2048 := (y 1).isLt
  have hy2 : (y 2).val < 256 := (y 2).isLt
  have ey : y = ix3 (0 : Fin 1) (⟨(y 1).val, hy1⟩ : Fin 2048) (⟨(y 2).val, hy2⟩ : Fin 256) := by
    funext a
    match a with
    | ⟨0, _⟩ => exact Subsingleton.elim (α := Fin 1) _ _
    | ⟨1, _⟩ => rfl
    | ⟨2, _⟩ => rfl
  have e0 : (((cfg0.win 7).blk t).view.emb y 0).val = (grid0.coords t 0).val := by
    have h0 : (y 0).val < 1 := (y 0).isLt
    blk_simp [idx t]
  have e1 : (((cfg0.win 7).blk t).view.emb y 1).val = (y 1).val := by
    blk_simp [idx t]
  have e2 : (((cfg0.win 7).blk t).view.emb y 2).val = (grid0.coords t 1).val * 256 + (y 2).val := by
    blk_simp [idx t]
  have key : attnOut (m ((c : Thread nD τ).loc main_arg0)) (m ((c : Thread nD τ).loc main_arg1)) (m ((c : Thread nD τ).loc main_arg2))
        (m ((c : Thread nD τ).loc main_arg3)) (((cfg0.win 7).blk t).view.emb y)
      = normB (fun e => (m ((c : Thread nD τ).loc main_arg3) : FVec Ideal S1x128 .f32) (ix2 0 e))
          (headK (m ((c : Thread nD τ).loc main_arg0)) (m ((c : Thread nD τ).loc main_arg1)) (m ((c : Thread nD τ).loc main_arg2))
            (batch t) ⟨(y 1).val, hy1⟩ (headOf t ⟨(y 2).val / 128, by omega⟩)) ⟨(y 2).val % 128, by omega⟩ := by
    have f0 : ((cfg0.win 7).blk t).view.emb y 0 = batch t := Fin.ext e0
    have f1 : ((cfg0.win 7).blk t).view.emb y 1 = (⟨(y 1).val, hy1⟩ : Fin 2048) := Fin.ext e1
    have f2 : (⟨(((cfg0.win 7).blk t).view.emb y 2).val / 128, by
        have h : (((cfg0.win 7).blk t).view.emb y 2).val < 1024 := (((cfg0.win 7).blk t).view.emb y 2).isLt; omega⟩ : Fin 8)
        = headOf t ⟨(y 2).val / 128, by omega⟩ := Fin.ext (by
      show (((cfg0.win 7).blk t).view.emb y 2).val / 128 = 2 * (grid0.coords t 1).val + (y 2).val / 128
      rw [e2]; omega)
    have f3 : (⟨(((cfg0.win 7).blk t).view.emb y 2).val % 128, by omega⟩ : Fin 128)
        = ⟨(y 2).val % 128, by omega⟩ := Fin.ext (by
      show (((cfg0.win 7).blk t).view.emb y 2).val % 128 = (y 2).val % 128
      rw [e2]; omega)
    unfold attnOut
    rw [f0, f1, f2, f3]
  rw [key]
  refine (congrArg (blockOut (F := Ideal) (iblk m c 0 t) (iblk m c 1 t) (iblk m c 2 t) (iblk m c 3 t) (iblk m c 4 t) (iblk m c 5 t) (iblk m c 6 t)) ey).trans ?_
  rw [blockOut_at, gainB_eq]
  exact congrArg (fun f => normB (fun e => (m ((c : Thread nD τ).loc main_arg3) : FVec Ideal S1x128 .f32) (ix2 0 e)) f _)
    (funext fun e => headB_eq m c t _ _ e)

end Cert.KernelIdeal.AttnValue

end
-- ==== Proof.AttnEq.lean ====
/- The kernel's result array and the reference's are one function of the arguments, where the weight, the queries, keys and
   values are finite. -/
module

public import proofs.«01_k».proof.Proof.AttnArray
public import proofs.«01_k».proof.Pre_finite

@[expose] public section

set_option maxRecDepth 16384

noncomputable section

namespace Cert.AttnEq

open Idealize.ShloMosaic Cert.AttnMath
open Cert.ReferenceIdeal Cert.ReferenceIdeal.AttnRef

/-- The side conditions of the precondition's operations. -/
theorem pre_facts : Cert.Pre_finite.Facts where
  bcast_S_S1 := by decide
  slices_S32x2048x5632_S32x2048x3072_0_0_0 := by decide
  bcast_S_S32x2048x3072 := by decide
  bcast_S_S32x256x2048 := by decide

/-- A value whose magnitude compares below infinity is a real. -/
theorem real_of_abs (x T : EReal) (hT : T = ⊤) (h : Ideal.cmp .olt (max x (-x)) T = 1#1) : ∃ r : ℝ, x = r := by
  subst hT
  induction x using EReal.rec with
  | bot => simp [Ideal.cmp] at h
  | top => simp [Ideal.cmp] at h
  | coe r => exact ⟨r, rfl⟩

theorem inf_f32 : Ideal.ofBits FTy.f32 0x7F800000#32 = (⊤ : EReal) := by simp [Ideal.ofBits, Ideal.ieee]
theorem inf_bf16 : Ideal.ofBits FTy.bf16 0x7F80#16 = (⊤ : EReal) := by simp [Ideal.ofBits, Ideal.ieee]

variable (a0 : FVec Ideal S1 .f32) (a1 : FVec Ideal S32x2048x5632 .bf16) (a2 : FVec Ideal S32x256x2048 .bf16) (a3 : FVec Ideal S1x128 .f32)

/-- The weight, and the lanes of the two arrays that attention reads, are reals. -/
structure Fin' : Prop where
  lam : ∃ r : ℝ, (a0 (ix1 0) : EReal) = r
  seq : ∀ (b : Fin 32) (i : Fin 2048) (x : Fin 3072), ∃ r : ℝ, (a1 (ix3 b i ⟨x.val, by omega⟩) : EReal) = r
  ctx : ∀ (b : Fin 32) (i : Fin 256) (x : Fin 2048), ∃ r : ℝ, (a2 (ix3 b i x) : EReal) = r

variable {a0 a1 a2}

/-- The precondition says so. -/
theorem fin_of_pre [Cert.Pre_finite.Facts]
    (h0 : (Cert.Pre_finite.fn (F := Ideal) a0 a1 a2 a3).1 = fun _ => 1#1)
    (h1 : (Cert.Pre_finite.fn (F := Ideal) a0 a1 a2 a3).2.1 = fun _ => 1#1)
    (h2 : (Cert.Pre_finite.fn (F := Ideal) a0 a1 a2 a3).2.2 = fun _ => 1#1) : Fin' a0 a1 a2 where
  lam := real_of_abs _ _ inf_f32 (congrFun h0 (ix1 0))
  seq b i x := by
    refine real_of_abs _ _ inf_bf16 ((congrArg (fun j => Ideal.cmp .olt (max (a1 j : EReal) (-(a1 j : EReal))) (Ideal.ofBits FTy.bf16 0x7F80#16)) ?_).trans (congrFun h1 (ix3 b i x)))
    funext a
    apply Fin.ext
    match a with
    | ⟨0, _⟩ => show b.val = 0 + b.val; omega
    | ⟨1, _⟩ => show i.val = 0 + i.val; omega
    | ⟨2, _⟩ => show x.val = 0 + x.val; omega
  ctx b i x := real_of_abs _ _ inf_bf16 (congrFun h2 (ix3 b i x))

theorem query_real (h : Fin' a0 a1 a2) (b : Fin 32) (i : Fin 2048) (x : Fin 1024) : ∃ r : ℝ, query a1 b i x = r :=
  h.seq b i ⟨x.val, by omega⟩

theorem key_real (h : Fin' a0 a1 a2) (b : Fin 32) (k : Fin 2304) (x : Fin 1024) : ∃ r : ℝ, key a1 a2 b k x = r := by
  unfold key
  split
  · exact h.ctx b _ ⟨x.val, by omega⟩
  · exact h.seq b _ ⟨1024 + x.val, by omega⟩

theorem value_real (h : Fin' a0 a1 a2) (b : Fin 32) (k : Fin 2304) (x : Fin 1024) : ∃ r : ℝ, value a1 a2 b k x = r := by
  unfold value
  split
  · exact h.ctx b _ ⟨1024 + x.val, by omega⟩
  · exact h.seq b _ ⟨2048 + x.val, by omega⟩

theorem dots_real (h : Fin' a0 a1 a2) (b : Fin 32) (hd : Fin 8) (mp : Fin 2) (i : Fin 2048) (k : Fin 2304) :
    ∃ r : ℝ, dots a1 a2 b hd mp i k = r :=
  sum_mul_real _ _ (fun x => query_real h b i _) (fun x => key_real h b k _)

/-- The two heads before their norm are one. -/
theorem head_same (h : Fin' a0 a1 a2) (b : Fin 32) (i : Fin 2048) (hd : Fin 8) (e : Fin 128) :
    Cert.KernelIdeal.AttnValue.headK a0 a1 a2 b i hd e = headR a0 a1 a2 b i hd e :=
  head_eq _ _ _ _ (fun k => dots_real h b hd 0 i k) (fun k => dots_real h b hd 1 i k) (fun k => value_real h b k _) h.lam

/-- The kernel's gain times the scale, multiplied at once, is the reference's two multiplications. -/
theorem norm_same (g f : Fin 128 → EReal) (e : Fin 128) : Cert.KernelIdeal.AttnValue.normB g f e = normR g f e := by
  unfold Cert.KernelIdeal.AttnValue.normB normR
  rw [mul_assoc (f e * _) (g e)]

/-- The kernel's result is the reference's. -/
theorem attn_eq (h : Fin' a0 a1 a2) :
    Cert.KernelIdeal.AttnValue.attnOut a0 a1 a2 a3 = Cert.ReferenceIdeal.Read.val_main_v55 (F := Ideal) a0 a1 a2 a3 := by
  funext y
  obtain ⟨b, i, c, rfl⟩ : ∃ (b : Fin 32) (i : Fin 2048) (c : Fin 1024), y = ix3 b i c := ⟨y 0, y 1, y 2, eq_ix3 y⟩
  rw [v55_at]
  show Cert.KernelIdeal.AttnValue.normB (fun e => a3 (ix2 0 e)) (Cert.KernelIdeal.AttnValue.headK a0 a1 a2 b i ⟨c.val / 128, by omega⟩)
    ⟨c.val % 128, by omega⟩ = _
  rw [norm_same]
  exact congrArg (fun f => normR (fun e => a3 (ix2 0 e)) f _) (funext fun e => head_same h b i _ e)

end Cert.AttnEq

end
-- ==== Proof.MoeRun.lean ====
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.Claim
public import Idealize.ShloMosaic.Lib.WritesUnit
public import Idealize.ShloMosaic.Lib.WholeRead
public import Idealize.ShloMosaic.Lib.Pipeline.Value

/-! # One run of the body of `moe_experts`

The body at one grid point, on any whole staging buffers: where the point's `valid` word is not zero it stores the two
experts' sum, where it is zero it stores zeros; either way the output's buffer is written whole. -/

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables as the body is handed them: whole buffers in scalar memory. -/
abbrev tabA : Memref sig .tc .smem S152 .i32 := Memref.whole main_arg0
abbrev tabB : Memref sig .tc .smem S152 .i32 := Memref.whole main_arg1
abbrev tabV : Memref sig .tc .smem S152 .i32 := Memref.whole main_arg2

/-- A table's buffer held at half the full share: the body reads it, the pipeline keeps the other half. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The first four sublanes of a slab: the high halves of the row. -/
def highs (x0 : Vec F S512x8x128 .f32) : Vec F S512x4x128 .f32 :=
  View.ld (Val := Elt F) (e' := .f32) x0 (Rect.unit (s := S512x8x128) ![0, 0, 0] S512x4x128.size inb_S512x8x128_S512x4x128_0_0_0)

/-- The fifth sublane of a slab: the row's gates. -/
def route (x0 : Vec F S512x8x128 .f32) : Vec F S512x1x128 .f32 :=
  View.ld (Val := Elt F) (e' := .f32) x0 (Rect.unit (s := S512x8x128) ![0, 4, 0] S512x1x128.size inb_S512x8x128_S512x1x128_0_4_0)

/-- What a used tile's output holds: the two experts' gated sum. -/
def experts (x0 : Vec F S512x8x128 .f32) (x1 : Vec F S512x4x128 .f32) (x2 : Vec F S1x1024x512 .bf16) (x3 : Vec F S1x1024x512 .bf16) (x4 : Vec F S1x512x1024 .bf16) (x5 : Vec F S1x1024x512 .bf16) (x6 : Vec F S1x1024x512 .bf16) (x7 : Vec F S1x512x1024 .bf16) : Vec F S512x8x128 .f32 :=
  k0_pay1 (k0_pay3 (highs x0) x1) (k0_pay4 (route x0)) (k0_pay5 (highs x0) x1 (route x0) x2 x3 x4) (k0_pay6 x5) x6 x7

/-- What the output's buffer holds after the body, `w` the point's `valid` word. -/
def block (w : BitVec 32) (x0 : Vec F S512x8x128 .f32) (x1 : Vec F S512x4x128 .f32) (x2 : Vec F S1x1024x512 .bf16) (x3 : Vec F S1x1024x512 .bf16) (x4 : Vec F S1x512x1024 .bf16) (x5 : Vec F S1x1024x512 .bf16) (x6 : Vec F S1x1024x512 .bf16) (x7 : Vec F S1x512x1024 .bf16) : Vec F S512x8x128 .f32 :=
  if k0_cond1 w = 1#1 then experts x0 x1 x2 x3 x4 x5 x6 x7 else k0_pay2

/-- A store of a whole block read back is what was stored. -/
theorem store_whole (v : View sig .tc .vmem S512x8x128 .f32) (f : v.ty.Contents (Elt F)) (w : Vec F S512x8x128 .f32) :
    v.read (Elt F) (v.writes (Elt F) f [⟨Rect.unit (s := S512x8x128) ![0, 0, 0] S512x8x128.size inb_S512x8x128_S512x8x128_0_0_0, w⟩]) = w := by
  funext y
  exact View.read_writes_cons_unit_of_mem v f _ w [] y y rfl fun a => by
    fin_cases a <;> exact (Nat.zero_add _).symm

/-- A load of a whole buffer's contents is a load of the contents. -/
theorem load_eq {S : Shape} {e : EltTy} {M : Memref sig .tc .vmem S e} (h : M.IsWhole) (X : S.Idx → Elt F e) (R : Rect S) :
    View.readAt (Elt F) M.view R.toLoadRect (h.unread X) = View.ld (Val := Elt F) (e' := e) X R :=
  funext fun x => h.readAt_unread X R.toLoadRect x

theorem zero3 : (![0, 0, 0] : Fin 3 → Nat) = fun _ => 0 := by decide

/-- A load of the whole of a buffer is its contents. -/
theorem load_whole {S : Shape} {e : EltTy} {M : Memref sig .tc .vmem S e} (h : M.IsWhole) {off : Fin S.rank → Nat} (hz : off = fun _ => 0)
    (inb : ∀ a, off a + S.size a ≤ S.size a) (X : S.Idx → Elt F e) :
    View.readAt (Elt F) M.view (Rect.unit off S.size inb).toLoadRect (h.unread X) = X :=
  (load_eq h X _).trans (View.ld_unit_zero hz inb X)

theorem pay1_congr {a a' : FVec F S512x1024 .bf16} {b b' : FVec F S512x128 .f32} {c c' : FVec F S512x1024 .f32} {d d' : FVec F S1024x512 .bf16}
    {e e' : Vec F S1x1024x512 .bf16} {f f' : Vec F S1x512x1024 .bf16} (ha : a = a') (hb : b = b') (hc : c = c') (hd : d = d') (he : e = e')
    (hf : f = f') : k0_pay1 a b c d e f = k0_pay1 a' b' c' d' e' f' := by rw [ha, hb, hc, hd, he, hf]

theorem pay5_congr {a a' b b' : Vec F S512x4x128 .f32} {c c' : Vec F S512x1x128 .f32} {d d' e e' : Vec F S1x1024x512 .bf16}
    {f f' : Vec F S1x512x1024 .bf16} (ha : a = a') (hb : b = b') (hc : c = c') (hd : d = d') (he : e = e') (hf : f = f') :
    k0_pay5 a b c d e f = k0_pay5 a' b' c' d' e' f' := by rw [ha, hb, hc, hd, he, hf]

theorem off_lt (i : grid0.Coords) (a : Fin 1) : k0_off1 i a < S152.size a := by
  have h := k0_off1_inb i a
  have e : S1.size a = 1 := by fin_cases a; rfl
  omega

/-- The `valid` word of a grid point. -/
def word (xt2 : S152.Idx → Elt F .i32) (i : grid0.Coords) : BitVec 32 := xt2 (fun a => ⟨k0_off1 i a, off_lt i a⟩)

/-- Exactly one of the body's two conditions holds. -/
theorem cond2_iff (w : BitVec 32) : k0_cond2 w = 1#1 ↔ ¬ k0_cond1 w = 1#1 := by
  unfold k0_cond1 k0_cond2
  by_cases h : w = 0#32
  · subst h; decide
  · have e : (w == 0#32) = false := by simpa using h
    have n : (w != 0#32) = true := by simpa using h
    simp only [Scalar.cmpi, Scalar.extui, IntOp.cmpi, e, n]
    decide

set_option maxHeartbeats 1000000 in
/-- The body's triple: from the inputs' buffers and the tables, it ends with all of them as they were and the output's
    buffer at `block`. -/
theorem body_run (c : Dev nD) (i : grid0.Coords) (arg4 : Memref sig .tc .vmem S512x8x128 .f32) (harg4 : arg4.IsWhole) (arg5 : Memref sig .tc .vmem S512x4x128 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole)
    (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x8x128 .f32) (harg12 : arg12.IsWhole)
    (x0 : Vec F S512x8x128 .f32) (x1 : Vec F S512x4x128 .f32) (x2 : Vec F S1x1024x512 .bf16) (x3 : Vec F S1x1024x512 .bf16) (x4 : Vec F S1x512x1024 .bf16) (x5 : Vec F S1x1024x512 .bf16) (x6 : Vec F S1x1024x512 .bf16) (x7 : Vec F S1x512x1024 .bf16) (xt0 : TabBuf (F := F) c tabA) (xt1 : TabBuf (F := F) c tabB) (xt2 : TabBuf (F := F) c tabV) :
    ∀ (E : Set ℕ) (K : PUnit → sProp 𝕄),
      iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ tabPt c tabA xt0 ∗ tabPt c tabB xt1 ∗ tabPt c tabV xt2
          ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare (block (word (F := F) xt2 i) x0 x1 x2 x3 x4 x5 x6 x7) ∗ tabPt c tabA xt0 ∗ tabPt c tabB xt1 ∗ tabPt c tabV xt2) -∗ K ⟨⟩))
        ⊢ wp frame (wpE (defs₀ (F := F)) Variants.none c none) E (cc0_moe_experts i tabA (Memref.isWhole_whole _) tabB (Memref.isWhole_whole _) tabV (Memref.isWhole_whole _) arg4 harg4 arg5 harg5 arg6 harg6 arg7 harg7 arg8 harg8 arg9 harg9 arg10 harg10 arg11 harg11 arg12 harg12) K := by
  intro E K
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT0, HT1, HT2, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  by_cases hc : k0_cond1 (xt2 (fun a => ⟨k0_off1 i a, off_lt i a⟩)) = 1#1
  · have hd : ¬ k0_cond2 (xt2 (fun a => ⟨k0_off2 i a, off_lt i a⟩)) = 1#1 := fun h => (cond2_iff _).1 h hc
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; swap; · iexact H8
      ipureintro
      refine (store_whole arg12.view f8 _).trans ?_
      refine Eq.trans ?_ (if_pos (show k0_cond1 (word (F := F) xt2 i) = 1#1 from hc)).symm
      exact pay1_congr (congrArg₂ k0_pay3 (load_eq harg4 _ _) (load_whole harg5 zero3 _ _)) (congrArg k0_pay4 (load_eq harg4 _ _))
        (pay5_congr (load_eq harg4 _ _) (load_whole harg5 zero3 _ _) (load_eq harg4 _ _) (load_whole harg6 zero3 _ _) (load_whole harg7 zero3 _ _) (load_whole harg8 zero3 _ _))
        (congrArg k0_pay6 (load_whole harg9 zero3 _ _)) (load_whole harg10 zero3 _ _) (load_whole harg11 zero3 _ _)
    isplitl [HT0]; · iexact HT0
    isplitl [HT1]; · iexact HT1
    iexact HT2
  · have hd : k0_cond2 (xt2 (fun a => ⟨k0_off2 i a, off_lt i a⟩)) = 1#1 := (cond2_iff _).2 hc
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; swap; · iexact H8
      ipureintro
      exact (store_whole arg12.view f8 _).trans (if_neg (show ¬ k0_cond1 (word (F := F) xt2 i) = 1#1 from hc)).symm
    isplitl [HT0]; · iexact HT0
    isplitl [HT1]; · iexact HT1
    iexact HT2

end Cert.Kernel2Ideal.Moe

end
-- ==== Proof.MoeLaunch.lean ====
module

public import proofs.«01_k».proof.Proof.MoeRun

/-! # The launch of `moe_experts`

The program is one pipelined call over 152 tiles. The tables choose which expert's weights a tile's windows hold; three of
the weight arrays are each staged by two windows. The theorems here: what every staging buffer holds before and after
the body at each tile, the whole run's final state, and the frame, for any tables that keep every window inside its array. -/

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- The buffers when the call is entered: as launched. -/
abbrev V (c : Dev nD) (b : Ref sig .tc) : Buf (Elt F) ((c : Thread nD τ).loc b) := m ((c : Thread nD τ).loc b)

set_option maxHeartbeats 800000 in
/-- The program up to the call: nothing. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents (there is one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The tables keep every window inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves that the call hands the body, one by one. -/
theorem tables_eq (c : Dev nD) : (Pipeline.ΦT pre0 (tbl m) c : sProp 𝕄) = iprop(tabPt c tabA (tbl m 0) ∗ tabPt c tabB (tbl m 1) ∗ tabPt c tabV (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at tile `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the output's buffer holds after the body at tile `t`. -/
def outAt (hO : Ok m) (c : Dev nD) (t : Fin (cfgM m hO).N) : Vec F S512x8x128 .f32 :=
  block (word (F := F) (tbl m 2) (grid0.coords t)) (iblk m hO c 0 t) (iblk m hO c 1 t) (iblk m hO c 2 t) (iblk m hO c 3 t) (iblk m hO c 4 t)
    (iblk m hO c 5 t) (iblk m hO c 6 t) (iblk m hO c 7 t)

/-- The proof data: after the body each input's buffer is at its block and the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => outAt m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = iblk m hO c 7 t := by dsimp only [dats]; try rfl
theorem after_8 (hO : Ok m) (c : Dev nD) (t : Fin (cfgM m hO).N) : (dats m hO 0 c).after 8 t = outAt m hO c t := by dsimp only [dats]; try rfl

/-- Each input's staging buffer holds its block at every tile. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (hO : Ok m) (c : Dev nD) (t : Fin (cfgM m hO).N) (d) : (dats m hO 0 c).before 7 t d = iblk m hO c 7 t :=
  ((dats m hO 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-- The output is written at every tile: one of the two conditions of the body holds. -/
theorem idle_8 (hO : Ok m) (t : Fin (cfgM m hO).N) : (cfgM m hO).idle (8 : Fin 9) ((cfgM m hO).grid.coords t) = false := by
  show (!(k0_cond1 ((tbl m).atD 2 (k0_off1 (grid0.coords t))) == 1#1) && !(k0_cond2 ((tbl m).atD 2 (k0_off1 (grid0.coords t))) == 1#1)) = false
  by_cases h : k0_cond1 ((tbl m).atD 2 (k0_off1 (grid0.coords t))) = 1#1
  · rw [h]; rfl
  · rw [(cond2_iff _).2 h]; simp

abbrev stg0 (hO : Ok m) (t : Fin (cfgM m hO).N) : Memref sig .tc .vmem S512x8x128 .f32 := spec0_0.stage ((cfgM m hO).slots t 0)
abbrev stg1 (hO : Ok m) (t : Fin (cfgM m hO).N) : Memref sig .tc .vmem S512x4x128 .f32 := spec0_1.stage ((cfgM m hO).slots t 1)
abbrev stg2 (hO : Ok m) (t : Fin (cfgM m hO).N) : Memref sig .tc .vmem S1x1024x512 .bf16 := spec0_2.stage ((cfgM m hO).slots t 2)
abbrev stg3 (hO : Ok m) (t : Fin (cfgM m hO).N) : Memref sig .tc .vmem S1x1024x512 .bf16 := spec0_3.stage ((cfgM m hO).slots t 3)
abbrev stg4 (hO : Ok m) (t : Fin (cfgM m hO).N) : Memref sig .tc .vmem S1x512x1024 .bf16 := spec0_4.stage ((cfgM m hO).slots t 4)
abbrev stg5 (hO : Ok m) (t : Fin (cfgM m hO).N) : Memref sig .tc .vmem S1x1024x512 .bf16 := spec0_5.stage ((cfgM m hO).slots t 5)
abbrev stg6 (hO : Ok m) (t : Fin (cfgM m hO).N) : Memref sig .tc .vmem S1x1024x512 .bf16 := spec0_6.stage ((cfgM m hO).slots t 6)
abbrev stg7 (hO : Ok m) (t : Fin (cfgM m hO).N) : Memref sig .tc .vmem S1x512x1024 .bf16 := spec0_7.stage ((cfgM m hO).slots t 7)
abbrev stg8 (hO : Ok m) (t : Fin (cfgM m hO).N) : Memref sig .tc .vmem S512x8x128 .f32 := spec0_8.stage ((cfgM m hO).slots t 8)

/-- The body at tile `t`, as the pipeline calls it. -/
abbrev bodyAt (hO : Ok m) (t : Fin (cfgM m hO).N) : Prog (TpuEff nD τ sig (Elt F) Λ₀ .tc) PUnit :=
  cc0_moe_experts (grid0.coords t) tabA (Memref.isWhole_whole _) tabB (Memref.isWhole_whole _) tabV (Memref.isWhole_whole _)
    (stg0 m hO t) (hstage0_0 (((cfgM m hO).slots t 0).cast nbuf0_0))
    (stg1 m hO t) (hstage0_1 (((cfgM m hO).slots t 1).cast nbuf0_1))
    (stg2 m hO t) (hstage0_2 (((cfgM m hO).slots t 2).cast nbuf0_2))
    (stg3 m hO t) (hstage0_3 (((cfgM m hO).slots t 3).cast nbuf0_3))
    (stg4 m hO t) (hstage0_4 (((cfgM m hO).slots t 4).cast nbuf0_4))
    (stg5 m hO t) (hstage0_5 (((cfgM m hO).slots t 5).cast nbuf0_5))
    (stg6 m hO t) (hstage0_6 (((cfgM m hO).slots t 6).cast nbuf0_6))
    (stg7 m hO t) (hstage0_7 (((cfgM m hO).slots t 7).cast nbuf0_7))
    (stg8 m hO t) (hstage0_8 (((cfgM m hO).slots t 8).cast nbuf0_8))

/-- What the body is called with at tile `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d))
    ∗ (∃ d, owns (c : Thread nD τ) (stg5 m hO t) fullShare ((dats m hO 0 c).before 5 t d))
    ∗ (∃ d, owns (c : Thread nD τ) (stg6 m hO t) fullShare ((dats m hO 0 c).before 6 t d))
    ∗ (∃ d, owns (c : Thread nD τ) (stg7 m hO t) fullShare ((dats m hO 0 c).before 7 t d))
    ∗ (∃ d, owns (c : Thread nD τ) (stg8 m hO t) fullShare ((dats m hO 0 c).before 8 t d)))

/-- What the body returns at tile `t`. -/
def bodyPost (hO : Ok m) (c : Dev nD) (t : Fin (cfgM m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t)
    ∗ owns (c : Thread nD τ) (stg5 m hO t) fullShare ((dats m hO 0 c).after 5 t)
    ∗ owns (c : Thread nD τ) (stg6 m hO t) fullShare ((dats m hO 0 c).after 6 t)
    ∗ owns (c : Thread nD τ) (stg7 m hO t) fullShare ((dats m hO 0 c).after 7 t)
    ∗ owns (c : Thread nD τ) (stg8 m hO t) fullShare ((dats m hO 0 c).after 8 t))

set_option maxHeartbeats 800000 in
/-- The body at any tile, from what it is called with to what it returns. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6, before_7]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6, after_7, after_8]
  rw [show (dats m hO 0 c).Φ t.castSucc = iprop(Pipeline.ΦA spec0 c ∗ Pipeline.ΦT pre0 (tbl m) c) from rfl, tables_eq]
  unfold outAt
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_run c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HT0]; · iexact HT0
  isplitl [HT1]; · iexact HT1
  isplitl [HT2]; · iexact HT2
  iintro ⟨H0, H1, H2, H3, H4, H5, H6, H7, H8, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at tile `t` is the body. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The pipeline's obligation of the body, at every tile. -/
theorem body_obligation (hO : Ok m) (c : Dev nD) : BodyObligation (dats (F := F) m hO 0 c) (defs₀ (F := F)) Variants.none () Set.univ := fun t => by
  rw [bigSep_W0, bigSep_W0, defs₀_row m hO, idle_8 m hO t]
  exact triple_restated (sound_body m hO c t) rfl .rfl fun _ => .rfl

set_option backward.isDefEq.respectTransparency.types false in
/-- The whole run: it ends, every array holds what the write-backs put there, and every semaphore is at zero. -/
theorem run_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)

/-- After the run every argument is as it was. -/
theorem kept (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) := by
  have h := h c
  exact ⟨(h.2 main_arg0 (by decide : main_arg0 ∈ Pipeline.restRefs sig spec0)),
    (h.2 main_arg1 (by decide : main_arg1 ∈ Pipeline.restRefs sig spec0)),
    (h.2 main_arg2 (by decide : main_arg2 ∈ Pipeline.restRefs sig spec0)),
    (h.1 0).trans (((dats m hO 0 c).arrAt_in 0 rfl _).trans (A_eq m hO c 0)),
    (h.1 1).trans (((dats m hO 0 c).arrAt_in 1 rfl _).trans (A_eq m hO c 1)),
    (h.1 5).trans (((dats m hO 0 c).arrAt_in 5 rfl _).trans (A_eq m hO c 5)),
    (h.1 6).trans (((dats m hO 0 c).arrAt_in 6 rfl _).trans (A_eq m hO c 6)),
    (h.1 7).trans (((dats m hO 0 c).arrAt_in 7 rfl _).trans (A_eq m hO c 7))⟩

/-- The call's result and its arguments after the run: the result holds every tile's write-back, the arguments are unchanged. -/
theorem run_value (hO : Ok m) : θ_run defs (onTc (τ := τ) (main (F := F))) ⟨m, fun _ => 0, ρ⟩ (fun r => ∀ c : Dev nD,
    r.2.mem ((c.tc : Thread nD τ).loc main_v0) = (dats m hO 0 c).arrAt 8 (cfgM m hO).N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7)) :=
  (θ_run defs _ _).mono (fun r h c => ⟨(h.1 c).1 8, kept m hO r h.1 c⟩) (run_quiescent m ρ hO)

/-- The frame: the arguments end unchanged and every semaphore is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7)) ∧ r.2.sem = fun _ => 0) :=
  (θ_run defs _ _).mono (fun r h => ⟨kept m hO r h.1, h.2⟩) (run_quiescent m ρ hO)

end Cert.Kernel2Ideal.Moe

end
-- ==== Proof.MoeOk.lean ====
module

public import proofs.«01_k».proof.Proof.MoeLaunch
public import proofs.«01_k».proof.Pre_routed
public import proofs.«01_k».proof.Pre_gated
public import Idealize.ShloMosaic.Lib.StableHlo.Predicate
public import Idealize.ShloMosaic.PureOps
public import Idealize.ShloMosaic.Lib.Pointwise

/-! # What the preconditions say

`routed` says that every word of the two expert tables is below 16, so every window lies inside its array; `gated` says
that too, and that the two gates of a row are nonnegative reals. -/

@[expose] public section

set_option maxRecDepth 16384

noncomputable section

namespace Cert.Kernel2Ideal.Moe

open Idealize.ShloMosaic Cert.Kernel2Ideal Cert.Kernel2Ideal.Gen

/-- The side conditions of `routed`'s operations. -/
theorem routed_facts : Cert.Pre_routed.Facts where
  bcast_S_S152 := by decide

/-- The side conditions of `gated`'s operations. -/
theorem gated_facts : Cert.Pre_gated.Facts where
  slices_S77824x8x128_S77824x1x2_0_4_0 := by decide
  shapeCasts_S77824x1x2_S77824x2 := by decide
  bcast_S_S152 := by decide
  bcast_S_S77824x2 := by decide

/-- A word that compares at least 0 and below 16 as a signed number is below 16. -/
theorem lt16 (w : BitVec 32) (h : (BitVec.ofBool (decide ((0#32).toInt ≤ w.toInt)) &&& BitVec.ofBool (decide (w.toInt < (16#32).toInt))) = 1#1) :
    w.toNat < 16 := by
  have h1 : (0#32).toInt ≤ w.toInt ∧ w.toInt < (16#32).toInt := by
    by_cases a : (0#32).toInt ≤ w.toInt
    · by_cases b : w.toInt < (16#32).toInt
      · exact ⟨a, b⟩
      · rw [decide_eq_true a, decide_eq_false b] at h; exact absurd h (by decide)
    · rw [decide_eq_false a] at h
      by_cases b : w.toInt < (16#32).toInt
      · rw [decide_eq_true b] at h; exact absurd h (by decide)
      · rw [decide_eq_false b] at h; exact absurd h (by decide)
  have h2 : (0#32).toInt = 0 := by decide
  have h3 : (16#32).toInt = 16 := by decide
  rw [h2, h3] at h1
  have := BitVec.toInt_eq_toNat_cond w
  have := w.isLt
  split at * <;> omega

variable {F : FTy → Type} [FloatOps F]

/-- Where every word of the two expert tables is below 16, every window's block lies inside its array. -/
theorem ok_of_lt (pf : pre0.Contents (Elt F)) (ha : ∀ j : S152.Idx, BitVec.toNat (w := 32) (pf 0 j) < 16)
    (hb : ∀ j : S152.Idx, BitVec.toNat (w := 32) (pf 1 j) < 16) : ok0 (F := F) pf := by
  have key : ∀ (n : Nat) (s b : Fin 3 → Nat), n < 16 → s 0 = 16 → b 0 = 1 → s 1 = b 1 → s 2 = b 2 → ∀ a, ((![n, (0#32).toNat, (0#32).toNat] : Fin 3 → Nat) a + 1) * b a ≤ s a := by
    intro n s b hn h0 h0' h1 h2 a
    match a with
    | ⟨0, _⟩ => show (n + 1) * b 0 ≤ s 0; rw [h0, h0']; omega
    | ⟨1, _⟩ => show (0 + 1) * b 1 ≤ s 1; rw [h1]; omega
    | ⟨2, _⟩ => show (0 + 1) * b 2 ≤ s 2; rw [h2]; omega
  exact ⟨fun i => ⟨key _ _ _ (ha _) rfl rfl rfl rfl, .inr (Affine.block_words_dvd (of_decide_eq_true rfl) (by decide))⟩,
    fun i => ⟨key _ _ _ (ha _) rfl rfl rfl rfl, .inr (Affine.block_words_dvd (of_decide_eq_true rfl) (by decide))⟩,
    fun i => ⟨key _ _ _ (ha _) rfl rfl rfl rfl, .inr (Affine.block_words_dvd (of_decide_eq_true rfl) (by decide))⟩,
    fun i => ⟨key _ _ _ (hb _) rfl rfl rfl rfl, .inr (Affine.block_words_dvd (of_decide_eq_true rfl) (by decide))⟩,
    fun i => ⟨key _ _ _ (hb _) rfl rfl rfl rfl, .inr (Affine.block_words_dvd (of_decide_eq_true rfl) (by decide))⟩,
    fun i => ⟨key _ _ _ (hb _) rfl rfl rfl rfl, .inr (Affine.block_words_dvd (of_decide_eq_true rfl) (by decide))⟩⟩

variable (a0 a1 a2 : IVec S152 32) (a3 : FVec F S77824x8x128 .f32) (a4 : FVec F S77824x4x128 .f32)
  (a5 a6 : FVec F S16x1024x512 .bf16) (a7 : FVec F S16x512x1024 .bf16)

theorem routed_a [Cert.Pre_routed.Facts] (h : (Cert.Pre_routed.fn (F := F) a0 a1 a2 a3 a4 a5 a6 a7).1 = fun _ => 1#1) (j : S152.Idx) : (a0 j).toNat < 16 :=
  lt16 _ (congrFun h j)

theorem routed_b [Cert.Pre_routed.Facts] (h : (Cert.Pre_routed.fn (F := F) a0 a1 a2 a3 a4 a5 a6 a7).2 = fun _ => 1#1) (j : S152.Idx) : (a1 j).toNat < 16 :=
  lt16 _ (congrFun h j)

theorem gated_a [Cert.Pre_gated.Facts] (h : (Cert.Pre_gated.fn (F := F) a0 a1 a2 a3 a4 a5 a6 a7).1 = fun _ => 1#1) (j : S152.Idx) : (a0 j).toNat < 16 :=
  lt16 _ (congrFun h j)

theorem gated_b [Cert.Pre_gated.Facts] (h : (Cert.Pre_gated.fn (F := F) a0 a1 a2 a3 a4 a5 a6 a7).2.1 = fun _ => 1#1) (j : S152.Idx) : (a1 j).toNat < 16 :=
  lt16 _ (congrFun h j)

/-- The launch's side condition, from the arguments' tables being below 16. -/
theorem ok_of_args (m : (ℓ : Loc nD τ sig) → Buf (Elt F) ℓ)
    (ha : ∀ j : S152.Idx, BitVec.toNat (w := 32) (m ((0 : Dev nD).tc.loc main_arg0) j) < 16)
    (hb : ∀ j : S152.Idx, BitVec.toNat (w := 32) (m ((0 : Dev nD).tc.loc main_arg1) j) < 16) : Ok (F := F) m :=
  ok_of_lt _ ha hb

/-- The gate of a row is a nonnegative real. -/
theorem gate_real (x : EReal) (h : (Ideal.cmp .oge x (Ideal.ofBits FTy.f32 0x00000000#32) &&& Ideal.cmp .olt x (Ideal.ofBits FTy.f32 0x7F800000#32)) = 1#1) :
    ∃ r : ℝ, 0 ≤ r ∧ x = r := by
  have hz : Ideal.ofBits FTy.f32 0x00000000#32 = (0 : EReal) := by simp [Ideal.ofBits, Ideal.ieee]
  have hi : Ideal.ofBits FTy.f32 0x7F800000#32 = (⊤ : EReal) := by simp [Ideal.ofBits, Ideal.ieee]
  rw [hz, hi] at h
  induction x using EReal.rec with
  | bot => simp [Ideal.cmp] at h
  | top => simp [Ideal.cmp] at h
  | coe r =>
    refine ⟨r, ?_, rfl⟩
    by_contra hr
    have : ¬ (0 : EReal) ≤ (r : EReal) := by rw [← EReal.coe_zero, EReal.coe_le_coe_iff]; exact hr
    simp [Ideal.cmp, this] at h

open Cert.Pre_gated (S77824x1x2 S77824x2) in
/-- `gated` says it of the two gates of every row. -/
theorem gated_gate [Cert.Pre_gated.Facts] (a3 : FVec Ideal S77824x8x128 .f32) (a4 : FVec Ideal S77824x4x128 .f32)
    (a5 a6 : FVec Ideal S16x1024x512 .bf16) (a7 : FVec Ideal S16x512x1024 .bf16)
    (h : (Cert.Pre_gated.fn (F := Ideal) a0 a1 a2 a3 a4 a5 a6 a7).2.2 = fun _ => 1#1) (t : Fin 77824) (k : Fin 2) :
    ∃ r : ℝ, 0 ≤ r ∧ (a3 (ix3 t 4 ⟨k.val, by omega⟩) : EReal) = r := by
  have e : (shapeCast S77824x2 (extractStridedSlice S77824x1x2 ![0, 4, 0] a3 Cert.Pre_gated.Facts.slices_S77824x8x128_S77824x1x2_0_4_0)
      Cert.Pre_gated.Facts.shapeCasts_S77824x1x2_S77824x2) (ix2 t k) = a3 (ix3 t 4 ⟨k.val, by omega⟩) := by
    pointwise
  have := congrFun h (ix2 t k)
  exact gate_real _ ((congrArg (fun x : EReal => (Ideal.cmp .oge x (Ideal.ofBits FTy.f32 0x00000000#32) &&& Ideal.cmp .olt x (Ideal.ofBits FTy.f32 0x7F800000#32))) e.symm).trans this)

end Cert.Kernel2Ideal.Moe

end
-- ==== Proof.MoeBits.lean ====
module

public import proofs.«01_k».proof.Proof.MoeOk
public import proofs.«01_k».proof.Proof.Gen.Kernel2.Launch

/-! # The frame of `moe_experts` at `Bits`

`Kernel2` and `Kernel2Ideal` are the same text read at two instances, so the frame, proved for any instance of the second, is
the first's. -/

@[expose] public section

set_option maxRecDepth 16384

noncomputable section

namespace Cert.Kernel2.Moe

open Idealize.ShloMosaic

variable {F : FTy → Type} [FloatOps F]

/-- The two programs' body tables are one. -/
theorem bodies_eq : Cert.Kernel2.defs₀ (F := F) = Cert.Kernel2Ideal.defs₀ (F := F) := by
  unfold Cert.Kernel2.defs₀ Cert.Kernel2Ideal.defs₀
  refine congrArg (Defs.onTc (nD := Cert.Kernel2.nD) (τ := Cert.Kernel2.τ) (sig := Cert.Kernel2.sig) (Val := Elt F) (Λ := Cert.Kernel2.Λ₀)) ?_
  funext l
  match l with
  | ⟨0, _⟩ => rfl

/-- The two programs' tables of definitions are one. -/
theorem defs_eq : Cert.Kernel2.defs (F := F) = Cert.Kernel2Ideal.defs (F := F) :=
  congrArg (Pipeline.defs (Cert.Kernel2.pcfgs (F := F))) bodies_eq

/-- What ends with the second program's definitions ends with the first's. -/
theorem frame (m : (ℓ : Loc nD τ sig) → Buf (Elt F) ℓ) (ρ : Dev nD → PrngReg) (hO : Cert.Kernel2Ideal.Moe.Ok (F := F) m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq]
  exact Cert.Kernel2Ideal.Moe.frame (F := F) m ρ hO

end Cert.Kernel2.Moe

end
-- ==== Proof.MoeMath.lean ====
/- Two experts of a row: the kernel adds the two experts' outputs, each hidden value weighted by its gate; the reference
   weighs every expert's output by the sum of the gates that name it. The two agree where the gates are nonnegative reals. -/
module

public import Idealize.ShloMosaic.PureOps
public import Idealize.ShloMosaic.Lib.Pointwise

@[expose] public section

noncomputable section

namespace Cert.MoeMath

open Idealize.ShloMosaic

/-- The gated linear unit's activation: `a` times its logistic. -/
def silu (a : EReal) : EReal := a * Ideal.div 1 (1 + Ideal.exp (-a))

/-- The hidden value `h` of a row `t` in an expert with the two input weights `w1` and `w3`. -/
def hid (t : Fin 1024 → EReal) (w1 w3 : Fin 1024 → Fin 512 → EReal) (h : Fin 512) : EReal :=
  silu (∑ d, t d * w1 d h) * ∑ d, t d * w3 d h

/-- An expert's output: its hidden values against its output weights. -/
def mlp (t : Fin 1024 → EReal) (w1 w3 : Fin 1024 → Fin 512 → EReal) (w2 : Fin 512 → EReal) : EReal :=
  ∑ h, hid t w1 w3 h * w2 h

/-- The same with every hidden value weighted by the gate `g`. -/
def slot (t : Fin 1024 → EReal) (w1 w3 : Fin 1024 → Fin 512 → EReal) (w2 : Fin 512 → EReal) (g : EReal) : EReal :=
  ∑ h, hid t w1 w3 h * g * w2 h

/-- A nonnegative real factor goes into a finite sum. -/
theorem mul_sum_real {ι : Type} (s : Finset ι) (r : ℝ) (hr : 0 ≤ r) (f : ι → EReal) :
    (r : EReal) * ∑ i ∈ s, f i = ∑ i ∈ s, (r : EReal) * f i := by
  induction s using Finset.cons_induction with
  | empty => simp
  | cons a s ha ih =>
    rw [Finset.sum_cons, Finset.sum_cons, ← ih]
    exact EReal.left_distrib_of_nonneg_of_ne_top (EReal.coe_nonneg.2 hr) (EReal.coe_ne_top r) _ _

/-- Weighing the hidden values by a nonnegative real is weighing the output by it. -/
theorem slot_eq (t : Fin 1024 → EReal) (w1 w3 : Fin 1024 → Fin 512 → EReal) (w2 : Fin 512 → EReal) (r : ℝ) (hr : 0 ≤ r) :
    slot t w1 w3 w2 r = (r : EReal) * mlp t w1 w3 w2 := by
  unfold slot mlp
  rw [mul_sum_real _ r hr]
  refine Finset.sum_congr rfl fun h _ => ?_
  rw [mul_comm (hid t w1 w3 h) (r : EReal), mul_assoc]

/-- One where two expert numbers agree, zero where they do not. -/
def ind (e e' : Fin 16) : EReal := if e = e' then 1 else 0

/-- Two gates weigh the outputs of the two experts they name, and of no other. -/
theorem mix_eq (z : Fin 16 → EReal) (ea eb : Fin 16) (r0 r1 : ℝ) (h0 : 0 ≤ r0) (h1 : 0 ≤ r1) :
    (r0 : EReal) * z ea + (r1 : EReal) * z eb = ∑ e, (ind ea e * (r0 : EReal) + ind eb e * (r1 : EReal)) * z e := by
  have ind_nonneg : ∀ (a b : Fin 16) (r : ℝ), 0 ≤ r → 0 ≤ ind a b * (r : EReal) := by
    intro a b r hr
    unfold ind
    split
    · rw [one_mul]; exact EReal.coe_nonneg.2 hr
    · rw [zero_mul]
  have one : ∀ (a : Fin 16) (r : ℝ), (r : EReal) * z a = ∑ e, ind a e * (r : EReal) * z e := by
    intro a r
    rw [Finset.sum_eq_single a]
    · unfold ind; rw [if_pos rfl, one_mul]
    · intro e _ he
      unfold ind
      rw [if_neg (fun h => he h.symm), zero_mul, zero_mul]
    · intro h; exact absurd (Finset.mem_univ a) h
  rw [one ea r0, one eb r1, ← Finset.sum_add_distrib]
  exact Finset.sum_congr rfl fun e _ => (EReal.right_distrib_of_nonneg (ind_nonneg ea e r0 h0) (ind_nonneg eb e r1 h1)).symm

end Cert.MoeMath

end
-- ==== Proof.MoeBlock.lean ====
/- What one grid point of the experts' kernel stores, at an index: the two experts' gated sum. -/
module

public import proofs.«01_k».proof.Proof.MoeRun
public import proofs.«01_k».proof.Proof.MoeMath
public import Idealize.ShloMosaic.Lib.Pointwise

@[expose] public section

set_option maxRecDepth 16384

noncomputable section

namespace Cert.Kernel2Ideal.Moe

open Cert.Kernel2Ideal Cert.Kernel2Ideal.Gen Idealize.ShloMosaic Idealize.ShloMosaic.TcCoe Idealize.SL.Sem
open Cert.MoeMath

/-- Lane `d` of row `r` of a tile: 512 lanes of the slab, then 512 of the low halves. -/
def tokB (x0 : FVec Ideal S512x8x128 .f32) (x1 : FVec Ideal S512x4x128 .f32) (r : Fin 512) (d : Fin 1024) : EReal :=
  if hd : d.val < 512 then x0 (ix3 r ⟨d.val / 128, by omega⟩ ⟨d.val % 128, by omega⟩)
  else x1 (ix3 r ⟨(d.val - 512) / 128, by omega⟩ ⟨(d.val - 512) % 128, by omega⟩)

theorem highs_at (x0 : FVec Ideal S512x8x128 .f32) (r : Fin 512) (s : Fin 4) (l : Fin 128) :
    highs (F := Ideal) x0 (ix3 r s l) = x0 (ix3 r ⟨s.val, by omega⟩ l) := by
  show x0 _ = x0 _
  congr 1
  funext a; apply Fin.ext
  match a with
  | ⟨0, _⟩ => show 0 + 1 * r.val = r.val; omega
  | ⟨1, _⟩ => show 0 + 1 * s.val = s.val; omega
  | ⟨2, _⟩ => show 0 + 1 * l.val = l.val; omega

theorem route_at (x0 : FVec Ideal S512x8x128 .f32) (r : Fin 512) (l : Fin 128) :
    route (F := Ideal) x0 (ix3 r 0 l) = x0 (ix3 r 4 l) := by
  show x0 _ = x0 _
  congr 1
  funext a; apply Fin.ext
  match a with
  | ⟨0, _⟩ => show 0 + 1 * r.val = r.val; omega
  | ⟨1, _⟩ => show 4 + 1 * 0 = 4; omega
  | ⟨2, _⟩ => show 0 + 1 * l.val = l.val; omega

theorem token_at (x0 : FVec Ideal S512x8x128 .f32) (x1 : FVec Ideal S512x4x128 .f32) (r : Fin 512) (d : Fin 1024) :
    k0_pay3 (F := Ideal) (highs x0) x1 (ix2 r d) = tokB x0 x1 r d := by
  have : k0_pay3 (F := Ideal) (highs x0) x1 (ix2 r d) = if hd : d.val < 512 then highs (F := Ideal) x0 (ix3 r ⟨d.val / 128, by omega⟩ ⟨d.val % 128, by omega⟩)
      else x1 (ix3 r ⟨(d.val - 512) / 128, by omega⟩ ⟨(d.val - 512) % 128, by omega⟩) := by
    pointwise [k0_pay3]
    all_goals rfl
  rw [this]
  unfold tokB
  simp only [highs_at]

/-- One expert's part, over any rows `T`, as the first expert's is written: the gate's column is the first. -/
theorem first_at (a b : FVec Ideal S512x4x128 .f32) (v17 : FVec Ideal S512x1x128 .f32) (w1 w3 : FVec Ideal S1x1024x512 .bf16)
    (w2 : FVec Ideal S1x512x1024 .bf16) (r : Fin 512) (d : Fin 1024) :
    k0_pay5 (F := Ideal) a b v17 w1 w3 w2 (ix2 r d)
      = slot (fun k => k0_pay3 (F := Ideal) a b (ix2 r k)) (fun k h => w1 (ix3 0 k h)) (fun k h => w3 (ix3 0 k h)) (fun h => w2 (ix3 0 h d)) (v17 (ix3 r 0 0)) := by
  unfold slot hid silu
  unfold k0_pay5
  generalize k0_pay3 (F := Ideal) a b = T
  pointwise [k0_pay4]
  simp [Ideal.ofBits, Ideal.ieee]

/-- The sum as the body stores it: the second expert's part, its gate's column the second, added to the first's. -/
theorem second_at (T : FVec Ideal S512x1024 .bf16) (g : FVec Ideal S512x128 .f32) (acc : FVec Ideal S512x1024 .f32) (w1 : FVec Ideal S1024x512 .bf16)
    (w3 : FVec Ideal S1x1024x512 .bf16) (w2 : FVec Ideal S1x512x1024 .bf16) (r : Fin 512) (s : Fin 8) (l : Fin 128) :
    k0_pay1 (F := Ideal) T g acc w1 w3 w2 (ix3 r s l)
      = acc (ix2 r ⟨s.val * 128 + l.val, by omega⟩)
        + slot (fun k => T (ix2 r k)) (fun k h => w1 (ix2 k h)) (fun k h => w3 (ix3 0 k h)) (fun h => w2 (ix3 0 h ⟨s.val * 128 + l.val, by omega⟩)) (g (ix2 r 1)) := by
  unfold slot hid silu
  unfold k0_pay1
  pointwise
  simp [Ideal.ofBits, Ideal.ieee]

/-- A used tile's output at row `r`, lane `128 s + l`. -/
theorem experts_at (x0 : FVec Ideal S512x8x128 .f32) (x1 : FVec Ideal S512x4x128 .f32) (x2 x3 : FVec Ideal S1x1024x512 .bf16)
    (x4 : FVec Ideal S1x512x1024 .bf16) (x5 x6 : FVec Ideal S1x1024x512 .bf16) (x7 : FVec Ideal S1x512x1024 .bf16) (r : Fin 512) (s : Fin 8) (l : Fin 128) :
    experts (F := Ideal) x0 x1 x2 x3 x4 x5 x6 x7 (ix3 r s l)
      = slot (tokB x0 x1 r) (fun k h => x2 (ix3 0 k h)) (fun k h => x3 (ix3 0 k h)) (fun h => x4 (ix3 0 h ⟨s.val * 128 + l.val, by omega⟩)) (x0 (ix3 r 4 0))
        + slot (tokB x0 x1 r) (fun k h => x5 (ix3 0 k h)) (fun k h => x6 (ix3 0 k h)) (fun h => x7 (ix3 0 h ⟨s.val * 128 + l.val, by omega⟩)) (x0 (ix3 r 4 1)) := by
  have e4 : k0_pay4 (F := Ideal) (route x0) (ix2 r 1) = x0 (ix3 r 4 1) := by
    refine Eq.trans ?_ (route_at x0 r 1); pointwise [k0_pay4]
  have e6 : ∀ k h, k0_pay6 (F := Ideal) x5 (ix2 k h) = x5 (ix3 0 k h) := by
    intro k h; pointwise [k0_pay6]
  unfold experts
  rw [second_at, first_at, e4, route_at]
  simp only [token_at, e6]

/-- An unused tile's output is zero. -/
theorem zeros_at (i : S512x8x128.Idx) : k0_pay2 (F := Ideal) i = 0 := by
  unfold k0_pay2
  pointwise

/-- A tile is used where its word is not zero. -/
theorem cond1_iff (w : BitVec 32) : k0_cond1 w = 1#1 ↔ IntOp.cmpi .ne w 0#32 = 1#1 := by
  unfold k0_cond1
  by_cases h : w = 0#32
  · subst h; decide
  · have n : (w != 0#32) = true := by simpa using h
    simp only [Scalar.cmpi, Scalar.extui, IntOp.cmpi, n]
    decide

end Cert.Kernel2Ideal.Moe

end
-- ==== Proof.MoeRef.lean ====
/- The reference's experts read at an index, stage by stage. -/
module

public import proofs.«01_k».proof.Proof.Gen.Reference2Ideal.Read
public import proofs.«01_k».proof.Proof.MoeMath
public import Idealize.ShloMosaic.Lib.Pointwise

@[expose] public section

set_option maxRecDepth 16384

noncomputable section

namespace Cert.Reference2Ideal.MoeRef

open Cert.Reference2Ideal Cert.Reference2Ideal.Gen Cert.Reference2Ideal.Read Idealize.ShloMosaic Idealize.ShloMosaic.TcCoe Idealize.SL.Sem
open Cert.MoeMath

variable (x0 x1 x2 : IVec S152 32) (x3 : FVec Ideal S77824x8x128 .f32) (x4 : FVec Ideal S77824x4x128 .f32)
  (x5 x6 : FVec Ideal S16x1024x512 .bf16) (x7 : FVec Ideal S16x512x1024 .bf16)

/-- Lane `d` of token row `t`: 512 lanes of the slabs, then 512 of the low halves. -/
def tok (t : Fin 77824) (d : Fin 1024) : EReal :=
  if hd : d.val < 512 then x3 (ix3 t ⟨d.val / 128, by omega⟩ ⟨d.val % 128, by omega⟩)
  else x4 (ix3 t ⟨(d.val - 512) / 128, by omega⟩ ⟨(d.val - 512) % 128, by omega⟩)

/-- The tile of a row. -/
def tile (t : Fin 77824) : Fin 152 := ⟨t.val / 512, by omega⟩

theorem tok_at (t : Fin 77824) (d : Fin 1024) : val_main_v3 (F := Ideal) x3 x4 (ix2 t d) = tok x3 x4 t d := by
  pointwise [val_main_v3, val_main_v1, val_main_v0, val_main_v2]
  rfl

theorem first_at (e : Fin 16) (t : Fin 77824) (h : Fin 512) :
    val_main_v22 (F := Ideal) x3 x4 x5 (ix3 e t h) = ∑ d, tok x3 x4 t d * x5 (ix3 e d h) := by
  have : val_main_v22 (F := Ideal) x3 x4 x5 (ix3 e t h) = ∑ d : Fin 1024, x5 (ix3 e d h) * val_main_v3 (F := Ideal) x3 x4 (ix2 t d) := by
    pointwise [val_main_v22, val_main_v21, val_main_v6]
  rw [this]
  exact Finset.sum_congr rfl fun d _ => by rw [tok_at, mul_comm]

theorem third_at (e : Fin 16) (t : Fin 77824) (h : Fin 512) :
    val_main_v25 (F := Ideal) x3 x4 x6 (ix3 e t h) = ∑ d, tok x3 x4 t d * x6 (ix3 e d h) := by
  have : val_main_v25 (F := Ideal) x3 x4 x6 (ix3 e t h) = ∑ d : Fin 1024, x6 (ix3 e d h) * val_main_v3 (F := Ideal) x3 x4 (ix2 t d) := by
    pointwise [val_main_v25, val_main_v24, val_main_v7]
  rw [this]
  exact Finset.sum_congr rfl fun d _ => by rw [tok_at, mul_comm]

theorem hid_at (e : Fin 16) (t : Fin 77824) (h : Fin 512) :
    val_main_v26 (F := Ideal) x3 x4 x5 x6 (ix3 e t h) = hid (tok x3 x4 t) (fun d h => x5 (ix3 e d h)) (fun d h => x6 (ix3 e d h)) h := by
  have : val_main_v26 (F := Ideal) x3 x4 x5 x6 (ix3 e t h)
      = silu (val_main_v22 (F := Ideal) x3 x4 x5 (ix3 e t h)) * val_main_v25 (F := Ideal) x3 x4 x6 (ix3 e t h) := by
    pointwise [val_main_v26, val_main_v23, val_main_call1_v5, val_main_call1_v4, val_main_call1_cst_0, val_main_call1_v3, val_main_call1_v2,
      val_main_call1_cst, val_main_call1_v1, val_main_call1_v0]
    rfl
  rw [this, first_at, third_at]
  rfl

/-- An expert's output for a row, in the reference. -/
def out (e : Fin 16) (t : Fin 77824) (d : Fin 1024) : EReal :=
  mlp (tok x3 x4 t) (fun d h => x5 (ix3 e d h)) (fun d h => x6 (ix3 e d h)) (fun h => x7 (ix3 e h d))

theorem out_at (e : Fin 16) (t : Fin 77824) (d : Fin 1024) :
    val_main_v28 (F := Ideal) x3 x4 x5 x6 x7 (ix3 e t d) = out x3 x4 x5 x6 x7 e t d := by
  have : val_main_v28 (F := Ideal) x3 x4 x5 x6 x7 (ix3 e t d)
      = ∑ h : Fin 512, val_main_v26 (F := Ideal) x3 x4 x5 x6 (ix3 e t h) * x7 (ix3 e h d) := by
    pointwise [val_main_v28, val_main_v8]
  rw [this]
  unfold out mlp
  exact Finset.sum_congr rfl fun h _ => by rw [hid_at]

theorem first_id (t : Fin 77824) : val_main_v17 (F := Ideal) x0 x1 (ix2 t 0) = x0 (ix1 (tile t)) := by
  pointwise [val_main_v17, val_main_v15, val_main_v11, val_main_v10, val_main_v9]
  all_goals rfl

theorem second_id (t : Fin 77824) : val_main_v17 (F := Ideal) x0 x1 (ix2 t 1) = x1 (ix1 (tile t)) := by
  pointwise [val_main_v17, val_main_v16, val_main_v14, val_main_v13, val_main_v12]
  all_goals rfl

theorem hot_at (t : Fin 77824) (k : Fin 2) (e : Fin 16) : val_main_v18 (F := Ideal) x0 x1 (ix3 t k e)
    = FloatOps.uitofp (F := Ideal) .f32 (IntOp.cmpi .eq (val_main_v17 (F := Ideal) x0 x1 (ix2 t k)) (BitVec.ofNat 32 e.val)) := by
  pointwise [val_main_v18, val_main_call0_v4, val_main_call0_v3, val_main_call0_v2, val_main_call0_v1, val_main_call0_v0]

/-- The one-hot entry of a word below 16. -/
theorem hot_word (w : BitVec 32) (hw : w.toNat < 16) (e : Fin 16) :
    (FloatOps.uitofp (F := Ideal) .f32 (IntOp.cmpi .eq w (BitVec.ofNat 32 e.val)) : EReal) = ind ⟨w.toNat, hw⟩ e := by
  unfold ind
  by_cases h : (⟨w.toNat, hw⟩ : Fin 16) = e
  · have hv : w = BitVec.ofNat 32 e.val := by rw [← h]; simp
    rw [if_pos h, ← hv]
    simp [IntOp.cmpi, FloatOps.uitofp]
  · have hv : w ≠ BitVec.ofNat 32 e.val := by
      intro hh; apply h; apply Fin.ext; show w.toNat = e.val; rw [hh]; simp; omega
    rw [if_neg h]
    simp [IntOp.cmpi, FloatOps.uitofp, hv]

/-- The gate of an expert for a row: the sum of the row's gates that name it. -/
theorem gate_at (t : Fin 77824) (e : Fin 16) (ha : (x0 (ix1 (tile t))).toNat < 16) (hb : (x1 (ix1 (tile t))).toNat < 16) :
    val_main_v20 (F := Ideal) x0 x1 x3 (ix2 e t)
      = ind ⟨_, ha⟩ e * x3 (ix3 t 4 0) + ind ⟨_, hb⟩ e * x3 (ix3 t 4 1) := by
  have : val_main_v20 (F := Ideal) x0 x1 x3 (ix2 e t) = ∑ k : Fin 2, val_main_v18 (F := Ideal) x0 x1 (ix3 t k e) * x3 (ix3 t 4 ⟨k.val, by omega⟩) := by
    pointwise [val_main_v20, val_main_v19, val_main_v5, val_main_v4]
  rw [this, Fin.sum_univ_two, hot_at, hot_at, first_id, second_id, hot_word _ ha, hot_word _ hb]
  rfl

theorem zero_word (j : S_.Idx) : constant (F := Ideal) S_ .f32 0x00000000#32 j = 0 := by
  simp [constant, Ideal.ofBits, Ideal.ieee, FloatOps.ofBits]

/-- The reference's result at row `t` and lane `128 s + l`: where the tile is valid, the sum over all experts. -/
theorem ref_at (t : Fin 77824) (s : Fin 8) (l : Fin 128) (ha : (x0 (ix1 (tile t))).toNat < 16) (hb : (x1 (ix1 (tile t))).toNat < 16) :
    val_main_v39 (F := Ideal) x0 x1 x2 x3 x4 x5 x6 x7 (ix3 t s l)
      = Scalar.select (IntOp.cmpi .ne (x2 (ix1 (tile t))) 0#32)
          (∑ e : Fin 16, (ind ⟨_, ha⟩ e * x3 (ix3 t 4 0) + ind ⟨_, hb⟩ e * x3 (ix3 t 4 1)) * out x3 x4 x5 x6 x7 e t ⟨s.val * 128 + l.val, by omega⟩) 0 := by
  have : val_main_v39 (F := Ideal) x0 x1 x2 x3 x4 x5 x6 x7 (ix3 t s l) = Scalar.select (IntOp.cmpi .ne (x2 (ix1 (tile t))) 0#32)
      (∑ e : Fin 16, val_main_v20 (F := Ideal) x0 x1 x3 (ix2 e t) * val_main_v28 (F := Ideal) x3 x4 x5 x6 x7 (ix3 e t ⟨s.val * 128 + l.val, by omega⟩)) 0 := by
    pointwise [val_main_v39, val_main_v38, val_main_call2_v1, val_main_call2_v2, val_main_v37, val_main_v36, val_main_v35, val_main_v34, val_main_v33,
      val_main_v32, val_main_call2_v0, val_main_v31, val_main_v30, val_main_v29, val_main_v27, val_main_cst, val_main_c]
    simp only [id, val_main_cst_0, zero_word]
    rfl
  rw [this]
  exact congrArg (fun z => Scalar.select (IntOp.cmpi .ne (x2 (ix1 (tile t))) 0#32) z 0)
    (Finset.sum_congr rfl fun e _ => by rw [gate_at x0 x1 x3 t e ha hb, out_at])

end Cert.Reference2Ideal.MoeRef

end
-- ==== Proof.MoeArray.lean ====
/- The experts' kernel's result array: at every row of a used tile the gated sum of the tile's two experts, elsewhere zero. -/
module

public import proofs.«01_k».proof.Proof.MoeLaunch
public import proofs.«01_k».proof.Proof.MoeBlock
public import proofs.«01_k».proof.Proof.MoeRef
public import Idealize.ShloMosaic.Lib.Pipeline.ValueKit

@[expose] public section

set_option maxRecDepth 16384

noncomputable section

namespace Cert.Kernel2Ideal.Moe

open Cert.Kernel2Ideal Cert.Kernel2Ideal.Gen Idealize.ShloMosaic Idealize.ShloMosaic.TcCoe Idealize.SL.Sem
open Idealize.ShloMosaic.Pipeline (Dat)
open Cert.MoeMath Cert.Reference2Ideal.MoeRef

/-- The kernel's result as a function of its arguments: a row's tile names its two experts. -/
def moeOut (xa xb xv : IVec S152 32) (ha : ∀ j, (xa j).toNat < 16) (hb : ∀ j, (xb j).toNat < 16) (x3 : FVec Ideal S77824x8x128 .f32)
    (x4 : FVec Ideal S77824x4x128 .f32) (x5 x6 : FVec Ideal S16x1024x512 .bf16) (x7 : FVec Ideal S16x512x1024 .bf16)
    (t : Fin 77824) (d : Fin 1024) : EReal :=
  if IntOp.cmpi .ne (xv (ix1 (tile t))) 0#32 = 1#1 then
    slot (tok x3 x4 t) (fun k h => x5 (ix3 ⟨_, ha (ix1 (tile t))⟩ k h)) (fun k h => x6 (ix3 ⟨_, ha (ix1 (tile t))⟩ k h))
        (fun h => x7 (ix3 ⟨_, ha (ix1 (tile t))⟩ h d)) (x3 (ix3 t 4 0))
      + slot (tok x3 x4 t) (fun k h => x5 (ix3 ⟨_, hb (ix1 (tile t))⟩ k h)) (fun k h => x6 (ix3 ⟨_, hb (ix1 (tile t))⟩ k h))
        (fun h => x7 (ix3 ⟨_, hb (ix1 (tile t))⟩ h d)) (x3 (ix3 t 4 1))
  else 0

variable (m : (ℓ : Loc nD τ sig) → Buf (Elt Ideal) ℓ) (hO : Ok m)

theorem rows_index : ∀ t : Fin grid0.N, cc0_transform_8 (grid0.coords t) = ![t.val, 0, 0] := by decide +kernel
theorem rows_index0 : ∀ t : Fin grid0.N, cc0_transform_0 (grid0.coords t) = ![t.val, 0, 0] := by decide +kernel
theorem rows_index1 : ∀ t : Fin grid0.N, cc0_transform_1 (grid0.coords t) = ![t.val, 0, 0] := by decide +kernel
theorem table_off : ∀ t : Fin grid0.N, k0_off1 (grid0.coords t) = ![t.val] := by decide +kernel

/-- A grid point's tile. -/
def tileOf (t : Fin (cfgM m hO).N) : Fin 152 := ⟨t.val, t.isLt.trans_eq (by decide : grid0.N = 152)⟩

/-- Row `r` of a grid point's tile. -/
def rowOf (t : Fin (cfgM m hO).N) (r : Fin 512) : Fin 77824 := ⟨t.val * 512 + r.val, by have := (tileOf m hO t).isLt; have : t.val < 152 := this; omega⟩

theorem tile_row (t : Fin (cfgM m hO).N) (r : Fin 512) : tile (rowOf m hO t r) = tileOf m hO t := by
  apply Fin.ext; show (t.val * 512 + r.val) / 512 = t.val; omega

/-- The slabs' block is the tile's rows. -/
theorem slab_at (c : Dev nD) (t : Fin (cfgM m hO).N) (r : Fin 512) (s : Fin 8) (l : Fin 128) :
    (iblk m hO c 0 t : FVec Ideal S512x8x128 .f32) (ix3 r s l) = (m ((c : Thread nD τ).loc main_arg3) : FVec Ideal S77824x8x128 .f32) (ix3 (rowOf m hO t r) s l) := by
  show (m ((c : Thread nD τ).loc main_arg3) : FVec Ideal S77824x8x128 .f32) ((((cfgM m hO).win 0).rect t).emb (ix3 r s l)) = _
  refine congrArg _ (funext fun a => Fin.ext ?_)
  refine (Pipeline.Window.rect_emb_val ((cfgM m hO).win 0) t (ix3 r s l : S512x8x128.Idx) a).trans ?_
  match a with
  | ⟨0, _⟩ => show cc0_transform_0 (grid0.coords t) 0 * 512 + r.val = t.val * 512 + r.val; rw [rows_index0]; rfl
  | ⟨1, _⟩ => show 0 * 8 + s.val = s.val; omega
  | ⟨2, _⟩ => show 0 * 128 + l.val = l.val; omega

/-- The low halves' block is the tile's rows. -/
theorem low_at (c : Dev nD) (t : Fin (cfgM m hO).N) (r : Fin 512) (s : Fin 4) (l : Fin 128) :
    (iblk m hO c 1 t : FVec Ideal S512x4x128 .f32) (ix3 r s l) = (m ((c : Thread nD τ).loc main_arg4) : FVec Ideal S77824x4x128 .f32) (ix3 (rowOf m hO t r) s l) := by
  show (m ((c : Thread nD τ).loc main_arg4) : FVec Ideal S77824x4x128 .f32) ((((cfgM m hO).win 1).rect t).emb (ix3 r s l)) = _
  refine congrArg _ (funext fun a => Fin.ext ?_)
  refine (Pipeline.Window.rect_emb_val ((cfgM m hO).win 1) t (ix3 r s l : S512x4x128.Idx) a).trans ?_
  match a with
  | ⟨0, _⟩ => show cc0_transform_1 (grid0.coords t) 0 * 512 + r.val = t.val * 512 + r.val; rw [rows_index1]; rfl
  | ⟨1, _⟩ => show 0 * 4 + s.val = s.val; omega
  | ⟨2, _⟩ => show 0 * 128 + l.val = l.val; omega

/-- A table's word at a grid point is the tile's. -/
theorem table_at (X : IVec S152 32) (t : Fin (cfgM m hO).N) (j : S152.Idx) (hj : (j 0).val = k0_off1 (grid0.coords t) 0) : X j = X (ix1 (tileOf m hO t)) := by
  refine congrArg X (funext fun a => Fin.ext ?_)
  match a with
  | ⟨0, _⟩ => exact hj.trans (congrFun (table_off t) 0)

/-- Expert number `e` at an axis of extent 16 cut in blocks of one. -/
theorem expert_axis (X : IVec S152 32) (t : Fin (cfgM m hO).N) (j : S152.Idx) (hj : (j 0).val = k0_off1 (grid0.coords t) 0) :
    (X j).toNat * 1 + 0 = (X (ix1 (tileOf m hO t))).toNat := by
  rw [table_at m hO X t j hj]; omega

/-- Window 2's block is the first expert's first input weights. -/
theorem weights_2 (c : Dev nD) (t : Fin (cfgM m hO).N) (ha : ∀ j : S152.Idx, BitVec.toNat (w := 32) (tbl m 0 j) < 16) (k : Fin 1024) (h : Fin 512) :
    (iblk m hO c 2 t : FVec Ideal S1x1024x512 .bf16) (ix3 0 k h)
      = (m ((c : Thread nD τ).loc main_arg5) : FVec Ideal S16x1024x512 .bf16) (ix3 ⟨_, ha (ix1 (tileOf m hO t))⟩ k h) := by
  show (m ((c : Thread nD τ).loc main_arg5) : FVec Ideal S16x1024x512 .bf16) ((((cfgM m hO).win 2).rect t).emb (ix3 0 k h)) = _
  refine congrArg _ (funext fun a => Fin.ext ?_)
  refine (Pipeline.Window.rect_emb_val ((cfgM m hO).win 2) t (ix3 0 k h : S1x1024x512.Idx) a).trans ?_
  match a with
  | ⟨0, _⟩ => exact expert_axis m hO (tbl m 0) t _ rfl
  | ⟨1, _⟩ => show 0 * 1024 + k.val = k.val; omega
  | ⟨2, _⟩ => show 0 * 512 + h.val = h.val; omega

/-- Window 3's block is the first expert's second input weights. -/
theorem weights_3 (c : Dev nD) (t : Fin (cfgM m hO).N) (ha : ∀ j : S152.Idx, BitVec.toNat (w := 32) (tbl m 0 j) < 16) (k : Fin 1024) (h : Fin 512) :
    (iblk m hO c 3 t : FVec Ideal S1x1024x512 .bf16) (ix3 0 k h)
      = (m ((c : Thread nD τ).loc main_arg6) : FVec Ideal S16x1024x512 .bf16) (ix3 ⟨_, ha (ix1 (tileOf m hO t))⟩ k h) := by
  show (m ((c : Thread nD τ).loc main_arg6) : FVec Ideal S16x1024x512 .bf16) ((((cfgM m hO).win 3).rect t).emb (ix3 0 k h)) = _
  refine congrArg _ (funext fun a => Fin.ext ?_)
  refine (Pipeline.Window.rect_emb_val ((cfgM m hO).win 3) t (ix3 0 k h : S1x1024x512.Idx) a).trans ?_
  match a with
  | ⟨0, _⟩ => exact expert_axis m hO (tbl m 0) t _ rfl
  | ⟨1, _⟩ => show 0 * 1024 + k.val = k.val; omega
  | ⟨2, _⟩ => show 0 * 512 + h.val = h.val; omega

/-- Window 4's block is the first expert's output weights. -/
theorem weights_4 (c : Dev nD) (t : Fin (cfgM m hO).N) (ha : ∀ j : S152.Idx, BitVec.toNat (w := 32) (tbl m 0 j) < 16) (k : Fin 512) (h : Fin 1024) :
    (iblk m hO c 4 t : FVec Ideal S1x512x1024 .bf16) (ix3 0 k h)
      = (m ((c : Thread nD τ).loc main_arg7) : FVec Ideal S16x512x1024 .bf16) (ix3 ⟨_, ha (ix1 (tileOf m hO t))⟩ k h) := by
  show (m ((c : Thread nD τ).loc main_arg7) : FVec Ideal S16x512x1024 .bf16) ((((cfgM m hO).win 4).rect t).emb (ix3 0 k h)) = _
  refine congrArg _ (funext fun a => Fin.ext ?_)
  refine (Pipeline.Window.rect_emb_val ((cfgM m hO).win 4) t (ix3 0 k h : S1x512x1024.Idx) a).trans ?_
  match a with
  | ⟨0, _⟩ => exact expert_axis m hO (tbl m 0) t _ rfl
  | ⟨1, _⟩ => show 0 * 512 + k.val = k.val; omega
  | ⟨2, _⟩ => show 0 * 1024 + h.val = h.val; omega

/-- Window 5's block is the second expert's first input weights. -/
theorem weights_5 (c : Dev nD) (t : Fin (cfgM m hO).N) (ha : ∀ j : S152.Idx, BitVec.toNat (w := 32) (tbl m 1 j) < 16) (k : Fin 1024) (h : Fin 512) :
    (iblk m hO c 5 t : FVec Ideal S1x1024x512 .bf16) (ix3 0 k h)
      = (m ((c : Thread nD τ).loc main_arg5) : FVec Ideal S16x1024x512 .bf16) (ix3 ⟨_, ha (ix1 (tileOf m hO t))⟩ k h) := by
  show (m ((c : Thread nD τ).loc main_arg5) : FVec Ideal S16x1024x512 .bf16) ((((cfgM m hO).win 5).rect t).emb (ix3 0 k h)) = _
  refine congrArg _ (funext fun a => Fin.ext ?_)
  refine (Pipeline.Window.rect_emb_val ((cfgM m hO).win 5) t (ix3 0 k h : S1x1024x512.Idx) a).trans ?_
  match a with
  | ⟨0, _⟩ => exact expert_axis m hO (tbl m 1) t _ rfl
  | ⟨1, _⟩ => show 0 * 1024 + k.val = k.val; omega
  | ⟨2, _⟩ => show 0 * 512 + h.val = h.val; omega

/-- Window 6's block is the second expert's second input weights. -/
theorem weights_6 (c : Dev nD) (t : Fin (cfgM m hO).N) (ha : ∀ j : S152.Idx, BitVec.toNat (w := 32) (tbl m 1 j) < 16) (k : Fin 1024) (h : Fin 512) :
    (iblk m hO c 6 t : FVec Ideal S1x1024x512 .bf16) (ix3 0 k h)
      = (m ((c : Thread nD τ).loc main_arg6) : FVec Ideal S16x1024x512 .bf16) (ix3 ⟨_, ha (ix1 (tileOf m hO t))⟩ k h) := by
  show (m ((c : Thread nD τ).loc main_arg6) : FVec Ideal S16x1024x512 .bf16) ((((cfgM m hO).win 6).rect t).emb (ix3 0 k h)) = _
  refine congrArg _ (funext fun a => Fin.ext ?_)
  refine (Pipeline.Window.rect_emb_val ((cfgM m hO).win 6) t (ix3 0 k h : S1x1024x512.Idx) a).trans ?_
  match a with
  | ⟨0, _⟩ => exact expert_axis m hO (tbl m 1) t _ rfl
  | ⟨1, _⟩ => show 0 * 1024 + k.val = k.val; omega
  | ⟨2, _⟩ => show 0 * 512 + h.val = h.val; omega

/-- Window 7's block is the second expert's output weights. -/
theorem weights_7 (c : Dev nD) (t : Fin (cfgM m hO).N) (ha : ∀ j : S152.Idx, BitVec.toNat (w := 32) (tbl m 1 j) < 16) (k : Fin 512) (h : Fin 1024) :
    (iblk m hO c 7 t : FVec Ideal S1x512x1024 .bf16) (ix3 0 k h)
      = (m ((c : Thread nD τ).loc main_arg7) : FVec Ideal S16x512x1024 .bf16) (ix3 ⟨_, ha (ix1 (tileOf m hO t))⟩ k h) := by
  show (m ((c : Thread nD τ).loc main_arg7) : FVec Ideal S16x512x1024 .bf16) ((((cfgM m hO).win 7).rect t).emb (ix3 0 k h)) = _
  refine congrArg _ (funext fun a => Fin.ext ?_)
  refine (Pipeline.Window.rect_emb_val ((cfgM m hO).win 7) t (ix3 0 k h : S1x512x1024.Idx) a).trans ?_
  match a with
  | ⟨0, _⟩ => exact expert_axis m hO (tbl m 1) t _ rfl
  | ⟨1, _⟩ => show 0 * 512 + k.val = k.val; omega
  | ⟨2, _⟩ => show 0 * 1024 + h.val = h.val; omega

/-- Rows that agree lane by lane are one row. -/
theorem tokB_tok (x0 : FVec Ideal S512x8x128 .f32) (x1 : FVec Ideal S512x4x128 .f32) (x3 : FVec Ideal S77824x8x128 .f32) (x4 : FVec Ideal S77824x4x128 .f32)
    (r : Fin 512) (t : Fin 77824) (h0 : ∀ s l, x0 (ix3 r s l) = x3 (ix3 t s l)) (h1 : ∀ s l, x1 (ix3 r s l) = x4 (ix3 t s l)) :
    tokB x0 x1 r = tok x3 x4 t := by
  funext d
  unfold tokB tok
  simp only [h0, h1]

/-- A row of the tile's block is the array's row. -/
theorem tokB_eq (c : Dev nD) (t : Fin (cfgM m hO).N) (r : Fin 512) :
    tokB (iblk m hO c 0 t) (iblk m hO c 1 t) r = tok (m ((c : Thread nD τ).loc main_arg3)) (m ((c : Thread nD τ).loc main_arg4)) (rowOf m hO t r) :=
  tokB_tok _ _ _ _ _ _ (slab_at m hO c t r) (low_at m hO c t r)

/-- What the body leaves in the output's buffer, at row `r`, lane `128 s + l`. -/
theorem outAt_at (c : Dev nD) (t : Fin (cfgM m hO).N) (ha : ∀ j : S152.Idx, BitVec.toNat (w := 32) (tbl m 0 j) < 16)
    (hb : ∀ j : S152.Idx, BitVec.toNat (w := 32) (tbl m 1 j) < 16) (r : Fin 512) (s : Fin 8) (l : Fin 128) :
    outAt m hO c t (ix3 r s l)
      = moeOut (tbl m 0) (tbl m 1) (tbl m 2) ha hb (m ((c : Thread nD τ).loc main_arg3)) (m ((c : Thread nD τ).loc main_arg4))
          (m ((c : Thread nD τ).loc main_arg5)) (m ((c : Thread nD τ).loc main_arg6)) (m ((c : Thread nD τ).loc main_arg7))
          (rowOf m hO t r) ⟨s.val * 128 + l.val, by omega⟩ := by
  have ew : word (F := Ideal) (tbl m 2) (grid0.coords t) = (tbl m 2 : IVec S152 32) (ix1 (tileOf m hO t)) := table_at m hO (tbl m 2) t _ rfl
  unfold outAt block moeOut
  rw [ew]
  simp only [tile_row]
  by_cases h : IntOp.cmpi .ne ((tbl m 2 : IVec S152 32) (ix1 (tileOf m hO t))) 0#32 = 1#1
  · rw [if_pos ((cond1_iff _).2 h), if_pos h]
    refine (experts_at _ _ _ _ _ _ _ _ r s l).trans ?_
    simp only [tokB_eq, weights_2 m hO c t ha, weights_3 m hO c t ha, weights_4 m hO c t ha, weights_5 m hO c t hb, weights_6 m hO c t hb,
      weights_7 m hO c t hb, slab_at]
  · rw [if_neg (fun h' => h ((cond1_iff _).1 h')), if_neg h]
    exact zeros_at _

/-- The kernel's result array as a function of its arguments. -/
def moeArr (xa xb xv : IVec S152 32) (ha : ∀ j, (xa j).toNat < 16) (hb : ∀ j, (xb j).toNat < 16) (x3 : FVec Ideal S77824x8x128 .f32)
    (x4 : FVec Ideal S77824x4x128 .f32) (x5 x6 : FVec Ideal S16x1024x512 .bf16) (x7 : FVec Ideal S16x512x1024 .bf16) : FVec Ideal S77824x8x128 .f32 := fun y =>
  moeOut xa xb xv ha hb x3 x4 x5 x6 x7 (y 0) ⟨(y 1).val * 128 + (y 2).val, by
    have h1 : (y 1).val < 8 := (y 1).isLt
    have h2 : (y 2).val < 128 := (y 2).isLt
    omega⟩

/-- Where an element of a tile's output lies in the array. -/
theorem place (t : Fin (cfgM m hO).N) (r : Fin 512) (s : Fin 8) (l : Fin 128) :
    ((((cfgM m hO).win 8).rect t).emb (ix3 r s l : S512x8x128.Idx) : S77824x8x128.Idx) = ix3 (rowOf m hO t r) s l := by
  refine funext fun a => Fin.ext ?_
  refine (Pipeline.Window.rect_emb_val ((cfgM m hO).win 8) t (ix3 r s l : S512x8x128.Idx) a).trans ?_
  match a with
  | ⟨0, _⟩ => show cc0_transform_8 (grid0.coords t) 0 * 512 + r.val = t.val * 512 + r.val; rw [rows_index]; rfl
  | ⟨1, _⟩ => show 0 * 8 + s.val = s.val; omega
  | ⟨2, _⟩ => show 0 * 128 + l.val = l.val; omega

/-- What the body leaves in the output's buffer is the array's block. -/
theorem outAt_place (c : Dev nD) (t : Fin (cfgM m hO).N) (ha : ∀ j : S152.Idx, BitVec.toNat (w := 32) (tbl m 0 j) < 16)
    (hb : ∀ j : S152.Idx, BitVec.toNat (w := 32) (tbl m 1 j) < 16) (y : S512x8x128.Idx) :
    (outAt m hO c t y : EReal) = moeArr (tbl m 0) (tbl m 1) (tbl m 2) ha hb (m ((c : Thread nD τ).loc main_arg3)) (m ((c : Thread nD τ).loc main_arg4))
          (m ((c : Thread nD τ).loc main_arg5)) (m ((c : Thread nD τ).loc main_arg6)) (m ((c : Thread nD τ).loc main_arg7))
          ((((cfgM m hO).win 8).rect t).emb y) := by
  have key : ∀ (r : Fin 512) (s : Fin 8) (l : Fin 128), (outAt m hO c t (ix3 r s l) : EReal)
      = moeArr (tbl m 0) (tbl m 1) (tbl m 2) ha hb (m ((c : Thread nD τ).loc main_arg3)) (m ((c : Thread nD τ).loc main_arg4))
          (m ((c : Thread nD τ).loc main_arg5)) (m ((c : Thread nD τ).loc main_arg6)) (m ((c : Thread nD τ).loc main_arg7))
          ((((cfgM m hO).win 8).rect t).emb (ix3 r s l : S512x8x128.Idx)) := fun r s l => by
    refine (outAt_at m hO c t ha hb r s l).trans (Eq.trans ?_ (congrArg _ (place m hO t r s l)).symm)
    rfl
  obtain ⟨r, s, l, rfl⟩ : ∃ (r : Fin 512) (s : Fin 8) (l : Fin 128), y = ix3 r s l := by
    refine ⟨y 0, y 1, y 2, funext fun a => ?_⟩
    match a with
    | ⟨0, _⟩ => rfl
    | ⟨1, _⟩ => rfl
    | ⟨2, _⟩ => rfl
  exact key _ _ _

theorem points : (cfgM m hO).N = 152 := (by decide : grid0.N = 152)

/-- Every element of the array is in the block of its row's tile. -/
theorem covered (i : S77824x8x128.Idx) : ∃ t : Fin (cfgM m hO).N, ((cfgM m hO).win 8).flush t = true ∧ i ∈ (((cfgM m hO).win 8).rect t).set := by
  have hi : (i 0).val < 77824 := (i 0).isLt
  have h1 : (i 1).val < 8 := (i 1).isLt
  have h2 : (i 2).val < 128 := (i 2).isLt
  refine ⟨⟨(i 0).val / 512, by rw [points m hO]; omega⟩, ?_, ?_⟩
  · exact (Pipeline.Window.flushOf_reads cc0_transform_8 reads0_8 hreads0_8 0 (by decide) (by decide)
      (Pipeline.Window.sep_of_coord cc0_transform_8 0 0 (fun _ => rfl) (by decide)) (P := 1) (m := 0) (by decide) rfl _).2 (Nat.mod_one _)
  · refine (Pipeline.Window.mem_rect_iff ((cfgM m hO).win 8) _ i).2 fun a => ?_
    show cc0_transform_8 (grid0.coords _) a * S512x8x128.size a ≤ (i a).val ∧ (i a).val < cc0_transform_8 (grid0.coords _) a * S512x8x128.size a + S512x8x128.size a
    rw [rows_index]
    match a with
    | ⟨0, _⟩ => show (i 0).val / 512 * 512 ≤ (i 0).val ∧ (i 0).val < (i 0).val / 512 * 512 + 512; omega
    | ⟨1, _⟩ => show 0 * 8 ≤ (i 1).val ∧ (i 1).val < 0 * 8 + 8; omega
    | ⟨2, _⟩ => show 0 * 128 ≤ (i 2).val ∧ (i 2).val < 0 * 128 + 128; omega

/-- The kernel's result array after the run. -/
theorem array_eq (c : Dev nD) (ha : ∀ j : S152.Idx, BitVec.toNat (w := 32) (tbl m 0 j) < 16) (hb : ∀ j : S152.Idx, BitVec.toNat (w := 32) (tbl m 1 j) < 16) :
    (dats m hO 0 c).arrAt 8 (cfgM m hO).N
    = moeArr (tbl m 0) (tbl m 1) (tbl m 2) ha hb (m ((c : Thread nD τ).loc main_arg3)) (m ((c : Thread nD τ).loc main_arg4))
          (m ((c : Thread nD τ).loc main_arg5)) (m ((c : Thread nD τ).loc main_arg6)) (m ((c : Thread nD τ).loc main_arg7)) :=
  (dats m hO 0 c).arrAt_eq_of_emb 8 _ (fun t _ y => outAt_place m hO c t ha hb y) fun i => by
    obtain ⟨t, hf, ht⟩ := covered m hO i
    exact ⟨t, hf, (ValueKit.mem_set_slice_whole_iff main_v0 _ i Iff.rfl).2 ht⟩

end Cert.Kernel2Ideal.Moe

end
-- ==== Proof.MoeEq.lean ====
/- The experts' kernel and its reference leave the same array where the tables are in range and the gates nonnegative reals. -/
module

public import proofs.«01_k».proof.Proof.MoeArray

@[expose] public section

set_option maxRecDepth 16384

noncomputable section

namespace Cert.Kernel2Ideal.Moe

open Cert.Kernel2Ideal Cert.Kernel2Ideal.Gen Idealize.ShloMosaic Idealize.ShloMosaic.TcCoe Idealize.SL.Sem
open Cert.MoeMath Cert.Reference2Ideal.MoeRef

/-- The kernel's array, as a function of the arguments, is the reference's. -/
theorem moeArr_eq (xa xb xv : IVec S152 32) (ha : ∀ j, (xa j).toNat < 16) (hb : ∀ j, (xb j).toNat < 16) (x3 : FVec Ideal S77824x8x128 .f32)
    (x4 : FVec Ideal S77824x4x128 .f32) (x5 x6 : FVec Ideal S16x1024x512 .bf16) (x7 : FVec Ideal S16x512x1024 .bf16)
    (hg : ∀ (t : Fin 77824) (k : Fin 2), ∃ r : ℝ, 0 ≤ r ∧ (x3 (ix3 t 4 ⟨k.val, by omega⟩) : EReal) = r) :
    moeArr xa xb xv ha hb x3 x4 x5 x6 x7 = Cert.Reference2Ideal.Read.val_main_v39 (F := Ideal) xa xb xv x3 x4 x5 x6 x7 := by
  have key : ∀ (t : Fin 77824) (s : Fin 8) (l : Fin 128), moeOut xa xb xv ha hb x3 x4 x5 x6 x7 t ⟨s.val * 128 + l.val, by omega⟩
      = Cert.Reference2Ideal.Read.val_main_v39 (F := Ideal) xa xb xv x3 x4 x5 x6 x7 (ix3 t s l) := by
    intro t s l
    obtain ⟨r0, h0, e0⟩ := hg t 0
    obtain ⟨r1, h1, e1⟩ := hg t 1
    have e0' : (x3 (ix3 t 4 0) : EReal) = r0 := e0
    have e1' : (x3 (ix3 t 4 1) : EReal) = r1 := e1
    rw [ref_at xa xb xv x3 x4 x5 x6 x7 t s l (ha _) (hb _), e0', e1', ← mix_eq _ _ _ r0 r1 h0 h1]
    unfold moeOut
    rw [e0', e1', slot_eq _ _ _ _ r0 h0, slot_eq _ _ _ _ r1 h1]
    rfl
  funext y
  obtain ⟨t, s, l, rfl⟩ : ∃ (t : Fin 77824) (s : Fin 8) (l : Fin 128), y = ix3 t s l := by
    refine ⟨y 0, y 1, y 2, funext fun a => ?_⟩
    match a with
    | ⟨0, _⟩ => rfl
    | ⟨1, _⟩ => rfl
    | ⟨2, _⟩ => rfl
  exact key t s l

end Cert.Kernel2Ideal.Moe

end
-- ==== Proof.ProjBlock.lean ====
/- What a grid point of the projection kernel computes: a block of normalised tokens times eleven blocks of the weights. -/
module

public import proofs.«01_k».proof.Proof.Gen.Kernel3Ideal.Frame
public import Idealize.ShloMosaic.Lib.Pointwise

@[expose] public section

set_option maxRecDepth 16384

noncomputable section

namespace Cert.Kernel3Ideal.ProjValue

open Cert.Kernel3Ideal Cert.Kernel3Ideal.Gen Idealize.ShloMosaic Idealize.ShloMosaic.TcCoe Idealize.SL.Sem

section Any
variable {F : FTy → Type} [FloatOps F]

/-- A block of normalised tokens times 512 columns of the weights. -/
def projOf (h : FVec F S1024x1024 .bf16) (w : Vec F S1024x512 .bf16) : FVec F S1024x512 .f32 :=
  matmul dot_S1024x1024_S1024x512_S1024x512_1_0_0_1_n_n none h w (constant S1024x512 .f32 0x00000000#32)

/-- 128 lanes turned by their angles: the lanes times the cosines, and each lane's partner times the sines. -/
def turned (s : FVec F S1024x128 .f32) (cos sin : Vec F S1024x128 .f32) : FVec F S1024x128 .f32 :=
  addf (mulf s cos) (mulf (select (broadcastTo S1024x128 (shapeCast S1x128 k0_pay14 shapeCasts_S1x128_S1x128) broadcasts_S1x128_S1024x128)
    (dynamicRotate 1 112#32 none s rotates_S1024x128_d1) (dynamicRotate 1 16#32 none s rotates_S1024x128_d1)) sin)

/-- The stored block of 512 columns of queries or keys: four times 128 lanes, turned. -/
def ropeOf (acc : FVec F S1024x512 .f32) (cos sin : Vec F S1024x128 .f32) : FVec F S1x1024x512 .bf16 :=
  shapeCast S1x1024x512 (truncf .bf16 (concatenate S1024x512 1
    [⟨S1024x128, turned (extractStridedSlice S1024x128 ![0, 0] acc slices_S1024x512_o0_0_S1024x128) cos sin⟩,
     ⟨S1024x128, turned (extractStridedSlice S1024x128 ![0, 128] acc slices_S1024x512_o0_128_S1024x128) cos sin⟩,
     ⟨S1024x128, turned (extractStridedSlice S1024x128 ![0, 256] acc slices_S1024x512_o0_256_S1024x128) cos sin⟩,
     ⟨S1024x128, turned (extractStridedSlice S1024x128 ![0, 384] acc slices_S1024x512_o0_384_S1024x128) cos sin⟩]
    concatenates_S1024x128_S1024x128_S1024x128_S1024x128_S1024x512_d1) bitsLt_bf16_f32) shapeCasts_S1024x512_S1x1024x512

/-- The stored block of 512 plain columns. -/
def plainOf (acc : FVec F S1024x512 .f32) : FVec F S1x1024x512 .bf16 :=
  shapeCast S1x1024x512 (truncf .bf16 acc bitsLt_bf16_f32) shapeCasts_S1024x512_S1x1024x512

/-- The stored block of 512 columns of gates: the logistic function of each entry. -/
def gateOf (acc : FVec F S1024x512 .f32) : FVec F S1x1024x512 .bf16 :=
  shapeCast S1x1024x512 (truncf .bf16 (divf (broadcast S1024x512 (Scalar.ofBits .f32 0x3F800000#32))
    (addf (broadcast S1024x512 (Scalar.ofBits .f32 0x3F800000#32))
      (exp (subf (broadcast S1024x512 (Scalar.ofBits .f32 0x00000000#32)) acc)))) bitsLt_bf16_f32) shapeCasts_S1024x512_S1x1024x512

/-- The rectangle of the output's block that holds columns `512 k … 512 k + 511`. -/
def outRect (k : Fin 11) : Rect S1x1024x5632 := Rect.unit ![0, 0, 512 * k.val] S1x1024x512.size (by
  revert k; decide +kernel)

/-- The rectangle of the weights that holds the same columns. -/
def wRect (k : Fin 11) : Rect S1024x5632 := Rect.unit ![0, 512 * k.val] S1024x512.size (by
  revert k; decide +kernel)

variable (x0 : Vec F S1x1024x1024 .f32) (x1 : Vec F S1x6x1024 .f32) (x2 : Vec F S1x1024 .f32) (x3 : Vec F S1024x5632 .bf16)
  (x4 x5 : Vec F S1024x128 .f32)

/-- The block's normalised, scaled and shifted tokens. -/
def tokens : FVec F S1024x1024 .bf16 := k0_pay2 (View.ld x0 r0_0) (View.ld x1 r0_1) (View.ld x1 r0_2) (View.ld x2 r0_3)

/-- The product with the `k`-th block of columns. -/
def accAt (k : Fin 11) : FVec F S1024x512 .f32 := projOf (tokens x0 x1 x2) (View.ld x3 (wRect k))

/-- A `k`-th stored piece: four of turned columns, two plain, four of gates, one plain. -/
def pieceAt (k : Fin 11) (v : FVec F S1x1024x512 .bf16) : View.Piece (Elt F) S1x1024x5632 .bf16 := ⟨outRect k, v⟩

/-- What a grid point leaves, as its eleven pieces. -/
theorem out_pieces : out0_6 x0 x1 x2 x3 x4 x5 = View.canon
    [pieceAt 10 (plainOf (accAt x0 x1 x2 x3 10)), pieceAt 9 (gateOf (accAt x0 x1 x2 x3 9)), pieceAt 8 (gateOf (accAt x0 x1 x2 x3 8)),
     pieceAt 7 (gateOf (accAt x0 x1 x2 x3 7)), pieceAt 6 (gateOf (accAt x0 x1 x2 x3 6)), pieceAt 5 (plainOf (accAt x0 x1 x2 x3 5)),
     pieceAt 4 (plainOf (accAt x0 x1 x2 x3 4)),
     pieceAt 3 (ropeOf (accAt x0 x1 x2 x3 3) (View.ld x4 r0_5) (View.ld x5 r0_5)),
     pieceAt 2 (ropeOf (accAt x0 x1 x2 x3 2) (View.ld x4 r0_5) (View.ld x5 r0_5)),
     pieceAt 1 (ropeOf (accAt x0 x1 x2 x3 1) (View.ld x4 r0_5) (View.ld x5 r0_5)),
     pieceAt 0 (ropeOf (accAt x0 x1 x2 x3 0) (View.ld x4 r0_5) (View.ld x5 r0_5))] := rfl

end Any

end Cert.Kernel3Ideal.ProjValue
-- ==== Proof.ProjMath.lean ====
/- A row of the projection as plain mathematics: a token's norm, its scale and shift, the product with the weights, and
   what is done with each column. -/
module

public import Idealize.ShloMosaic.Lib.Pointwise

@[expose] public section

noncomputable section

namespace Cert.ProjMath

open Idealize.ShloMosaic

/-- A token's entry after the norm with its gain, the scale and the shift. -/
def normRow (x g scale shift : Fin 1024 → EReal) (d : Fin 1024) : EReal :=
  x d * Ideal.rsqrt (Ideal.div (∑ e, x e * x e) (Ideal.ofBits FTy.f32 0x44800000#32) + Ideal.ofBits FTy.f32 0x358637BD#32) * g d
    * (1 + scale d) + shift d

/-- A row of 1024 entries, as a normalised token is, times a column of the weights. -/
def rowDot {n : ℕ} (h : Fin 1024 → EReal) (w : Fin 1024 → Fin n → EReal) (c : Fin n) : EReal := ∑ d, h d * w d c

/-- The logistic function. -/
def logistic (p : EReal) : EReal :=
  Ideal.div 1 (1 + Ideal.exp (-p))

/-- The column a column is turned with: the one 16 further or 16 back, in the same 32. -/
def partner (c : ℕ) : ℕ := if c % 32 < 16 then c + 16 else c - 16

theorem partner_lt {n c : ℕ} (hn : n % 32 = 0) (h : c < n) : partner c < n := by
  unfold partner; split <;> omega

/-- Partners lie in the same 128 columns, at the partner's lane. -/
theorem partner_add (q l : ℕ) : partner (128 * q + l) = 128 * q + partner l := by
  unfold partner
  have e : (128 * q + l) % 32 = l % 32 := by omega
  rw [e]; split <;> omega

/-- What is stored of a row of products: queries and keys turned, plain columns, gates, plain columns. -/
def cell (p : Fin 5632 → EReal) (cos sin : Fin 128 → EReal) (c : Fin 5632) : EReal :=
  if c.val < 2048 then p c * cos ⟨c.val % 128, by omega⟩ + p ⟨partner c.val, partner_lt (by decide) c.isLt⟩ * sin ⟨c.val % 128, by omega⟩
  else if c.val < 3072 then p c
  else if c.val < 5120 then logistic (p c)
  else p c

end Cert.ProjMath
-- ==== Proof.ProjRead.lean ====
/- What a grid point of the projection kernel leaves, read at an index. -/
module

public import proofs.«01_k».proof.Proof.ProjBlock
public import proofs.«01_k».proof.Proof.ProjMath

@[expose] public section

set_option maxRecDepth 16384

noncomputable section

namespace Cert.Kernel3Ideal.ProjValue

open Cert.Kernel3Ideal Cert.Kernel3Ideal.Gen Idealize.ShloMosaic Idealize.ShloMosaic.TcCoe Idealize.SL.Sem
open Cert.ProjMath

variable (x0 : FVec Ideal S1x1024x1024 .f32) (x1 : FVec Ideal S1x6x1024 .f32) (x2 : FVec Ideal S1x1024 .f32) (x3 : FVec Ideal S1024x5632 .bf16)
  (x4 x5 : FVec Ideal S1024x128 .f32)

/-- A token of the block, after its norm, scale and shift. -/
def rowB (i : Fin 1024) : Fin 1024 → EReal :=
  normRow (fun d => x0 (ix3 0 i d)) (fun d => x2 (ix2 0 d)) (fun d => x1 (ix3 0 1 d)) (fun d => x1 (ix3 0 0 d))

theorem tokens_at (i d : Fin 1024) : tokens (F := Ideal) x0 x1 x2 (ix2 i d) = rowB x0 x1 x2 i d := by
  pointwise [tokens, k0_pay2]
  rfl

theorem acc_at (k : Fin 11) (i : Fin 1024) (c : Fin 512) : accAt (F := Ideal) x0 x1 x2 x3 k (ix2 i c)
    = rowDot (rowB x0 x1 x2 i) (fun d c => x3 (ix2 d c)) ⟨512 * k.val + c.val, by omega⟩ := by
  unfold accAt
  have h : ∀ (t : FVec Ideal S1024x1024 .bf16), projOf (F := Ideal) t (View.ld (Val := Elt Ideal) (e' := .bf16) x3 (wRect k)) (ix2 i c)
      = ∑ d : Fin 1024, t (ix2 i d) * x3 (ix2 d ⟨512 * k.val + c.val, by omega⟩) := by
    intro t
    pointwise [projOf, wRect]
  rw [h]
  simp only [tokens_at]
  rfl

theorem plain_at (a : FVec Ideal S1024x512 .f32) (i : Fin 1024) (c : Fin 512) : plainOf (F := Ideal) a (ix3 0 i c) = a (ix2 i c) := by
  pointwise [plainOf]

theorem gate_at (a : FVec Ideal S1024x512 .f32) (i : Fin 1024) (c : Fin 512) : gateOf (F := Ideal) a (ix3 0 i c) = logistic (a (ix2 i c)) := by
  pointwise [gateOf]
  rw [zero_sub]
  rfl

/-- The mask names the lanes of the first half of each head. -/
theorem mask_at (l : Fin 128) : k0_pay14 (ix2 0 l) = if l.val % 32 < 16 then 1#1 else 0#1 := by
  revert l; decide +kernel

theorem turned_at (s : FVec Ideal S1024x128 .f32) (cos sin : FVec Ideal S1024x128 .f32) (i : Fin 1024) (l : Fin 128) :
    turned (F := Ideal) s cos sin (ix2 i l)
      = s (ix2 i l) * cos (ix2 i l) + s (ix2 i ⟨partner l.val, partner_lt (by decide) l.isLt⟩) * sin (ix2 i l) := by
  pointwise [turned]
  rw [mask_at]
  have hl : l.val < 128 := l.isLt
  congr 2
  by_cases h : l.val % 32 < 16
  · rw [if_pos h]
    refine congrArg (fun z => s (ix2 i z)) (Fin.ext ?_)
    show (l.val + 128 - 112) % 128 = partner l.val
    unfold partner; rw [if_pos h]; omega
  · rw [if_neg h]
    refine congrArg (fun z => s (ix2 i z)) (Fin.ext ?_)
    show (l.val + 128 - 16) % 128 = partner l.val
    unfold partner; rw [if_neg h]; omega

/-- 128 lanes cut out of 512 and turned, read at a column's lane. -/
theorem slice_at (a : FVec Ideal S1024x512 .f32) (cos sin : FVec Ideal S1024x128 .f32) (i : Fin 1024) (q : ℕ)
    (hs : S1024x512.Slices ![0, 128 * q] S1024x128) (c : Fin 512) (l : Fin 128) (h : c.val = 128 * q + l.val) :
    turned (F := Ideal) (extractStridedSlice S1024x128 ![0, 128 * q] a hs) cos sin (ix2 i l)
      = a (ix2 i c) * cos (ix2 i ⟨c.val % 128, by omega⟩)
        + a (ix2 i ⟨partner c.val, partner_lt (by decide) c.isLt⟩) * sin (ix2 i ⟨c.val % 128, by omega⟩) := by
  have hl : l.val < 128 := l.isLt
  have e1 : (⟨c.val % 128, by omega⟩ : Fin 128) = l := Fin.ext (by show c.val % 128 = l.val; omega)
  have ep : partner c.val = 128 * q + partner l.val := by rw [h, partner_add]
  have hp := partner_lt (n := 512) (by decide) c.isLt
  have r : ∀ (z : Fin 128) (w : Fin 512), w.val = 128 * q + z.val →
      extractStridedSlice S1024x128 ![0, 128 * q] a hs (ix2 i z) = a (ix2 i w) := by
    intro z w hw
    have hz : 128 * q + z.val < 512 := hw ▸ w.isLt
    have ew : w = ⟨128 * q + z.val, hz⟩ := Fin.ext hw
    rw [ew]
    pointwise
  rw [turned_at, e1, r l c h, r ⟨partner l.val, partner_lt (by decide) l.isLt⟩ ⟨partner c.val, hp⟩ ep]

/-- A block of queries or keys at an index. -/
theorem rope_at (a : FVec Ideal S1024x512 .f32) (cos sin : FVec Ideal S1024x128 .f32) (i : Fin 1024) (c : Fin 512) :
    ropeOf (F := Ideal) a cos sin (ix3 0 i c)
      = a (ix2 i c) * cos (ix2 i ⟨c.val % 128, by omega⟩)
        + a (ix2 i ⟨partner c.val, partner_lt (by decide) c.isLt⟩) * sin (ix2 i ⟨c.val % 128, by omega⟩) := by
  pointwise [ropeOf]
  have hc : c.val < 512 := c.isLt
  split
  · exact slice_at a cos sin i 0 _ c ⟨c.val, by omega⟩ (by show c.val = 128 * 0 + c.val; omega)
  · split
    · exact slice_at a cos sin i 1 _ c ⟨c.val - 128, by omega⟩ (by show c.val = 128 * 1 + (c.val - 128); omega)
    · split
      · exact slice_at a cos sin i 2 _ c ⟨c.val - 128 - 128, by omega⟩ (by show c.val = 128 * 2 + (c.val - 128 - 128); omega)
      · exact slice_at a cos sin i 3 _ c ⟨c.val - 128 - 128 - 128, by omega⟩ (by show c.val = 128 * 3 + (c.val - 128 - 128 - 128); omega)

/-- What a grid point leaves at row `i` and column `c`. -/
def cellB (i : Fin 1024) (c : Fin 5632) : EReal :=
  cell (rowDot (rowB x0 x1 x2 i) (fun d c => x3 (ix2 d c))) (fun l => x4 (ix2 i l)) (fun l => x5 (ix2 i l)) c

/-- The block that a grid point leaves, as one function of the block's index. -/
def blockOut : FVec Ideal S1x1024x5632 .bf16 := fun y => cellB x0 x1 x2 x3 x4 x5 (y 1) (y 2)

theorem emb_row (k : Fin 11) (i : Fin 1024) (c : Fin 512) : (outRect k).emb (ix3 (0 : Fin 1) i c) 1 = i := by
  apply Fin.ext; show 0 + 1 * i.val = i.val; omega

theorem emb_col (k : Fin 11) (i : Fin 1024) (c : Fin 512) :
    (outRect k).emb (ix3 (0 : Fin 1) i c) 2 = (⟨512 * k.val + c.val, by omega⟩ : Fin 5632) := by
  apply Fin.ext; show 512 * k.val + 1 * c.val = 512 * k.val + c.val; omega

theorem idx_eq (x : S1x1024x512.Idx) : ∃ (i : Fin 1024) (c : Fin 512), x = ix3 (0 : Fin 1) i c :=
  ⟨x 1, x 2, by
    funext a
    match a with
    | ⟨0, _⟩ => exact Subsingleton.elim (α := Fin 1) _ _
    | ⟨1, _⟩ => rfl
    | ⟨2, _⟩ => rfl⟩

/-- A block of turned columns is the part of `blockOut` at its rectangle. -/
theorem rope_piece (k : Fin 11) (hk : k.val < 4) (x : S1x1024x512.Idx) :
    ropeOf (F := Ideal) (accAt (F := Ideal) x0 x1 x2 x3 k) (View.ld (Val := Elt Ideal) (e' := .f32) x4 r0_5) (View.ld (Val := Elt Ideal) (e' := .f32) x5 r0_5) x
      = blockOut x0 x1 x2 x3 x4 x5 ((outRect k).emb x) := by
  obtain ⟨i, c, rfl⟩ := idx_eq x
  have hc : c.val < 512 := c.isLt
  have ld : ∀ (t : FVec Ideal S1024x128 .f32) (l : Fin 128), View.ld (Val := Elt Ideal) (e' := .f32) t r0_5 (ix2 i l) = t (ix2 i l) := by
    intro t l; pointwise
  unfold blockOut cellB cell
  rw [emb_row, emb_col, if_pos (by show 512 * k.val + c.val < 2048; omega), rope_at, acc_at, acc_at, ld, ld]
  have e1 : (⟨(512 * k.val + c.val) % 128, by omega⟩ : Fin 128) = ⟨c.val % 128, by omega⟩ := Fin.ext (by show (512 * k.val + c.val) % 128 = c.val % 128; omega)
  have e2 : partner (512 * k.val + c.val) = 512 * k.val + partner c.val := by
    have := partner_add (4 * k.val) c.val
    rw [show 128 * (4 * k.val) = 512 * k.val by omega] at this
    exact this
  simp only [e1, e2]

/-- A block of plain columns is the part of `blockOut` at its rectangle. -/
theorem plain_piece (k : Fin 11) (hk : k.val = 4 ∨ k.val = 5 ∨ k.val = 10) (x : S1x1024x512.Idx) :
    plainOf (F := Ideal) (accAt (F := Ideal) x0 x1 x2 x3 k) x = blockOut x0 x1 x2 x3 x4 x5 ((outRect k).emb x) := by
  obtain ⟨i, c, rfl⟩ := idx_eq x
  have hc : c.val < 512 := c.isLt
  unfold blockOut cellB cell
  rw [emb_row, emb_col, if_neg (by show ¬ 512 * k.val + c.val < 2048; omega), plain_at, acc_at]
  by_cases h : 512 * k.val + c.val < 3072
  · rw [if_pos h]
  · rw [if_neg h, if_neg (by show ¬ 512 * k.val + c.val < 5120; omega)]

/-- A block of gates is the part of `blockOut` at its rectangle. -/
theorem gate_piece (k : Fin 11) (hk : 6 ≤ k.val ∧ k.val < 10) (x : S1x1024x512.Idx) :
    gateOf (F := Ideal) (accAt (F := Ideal) x0 x1 x2 x3 k) x = blockOut x0 x1 x2 x3 x4 x5 ((outRect k).emb x) := by
  obtain ⟨i, c, rfl⟩ := idx_eq x
  have hc : c.val < 512 := c.isLt
  unfold blockOut cellB cell
  rw [emb_row, emb_col, if_neg (by show ¬ 512 * k.val + c.val < 2048; omega), if_neg (by show ¬ 512 * k.val + c.val < 3072; omega),
    if_pos (by show 512 * k.val + c.val < 5120; omega), gate_at, acc_at]

/-- A grid point leaves `blockOut` of its input blocks in the output's buffer. -/
theorem out_eq : out0_6 (F := Ideal) x0 x1 x2 x3 x4 x5 = blockOut x0 x1 x2 x3 x4 x5 := by
  rw [out_pieces]
  funext y
  refine View.canon_apply_of_pieces (Val := Elt Ideal) (blockOut x0 x1 x2 x3 x4 x5) _ (fun p hp x => ?_) y (cover0_6 _ _ _ _ _ _ _ _ _ _ _ y)
  simp only [List.mem_cons, List.not_mem_nil, or_false] at hp
  rcases hp with rfl | rfl | rfl | rfl | rfl | rfl | rfl | rfl | rfl | rfl | rfl
  · exact plain_piece x0 x1 x2 x3 x4 x5 10 (by decide) x
  · exact gate_piece x0 x1 x2 x3 x4 x5 9 (by decide) x
  · exact gate_piece x0 x1 x2 x3 x4 x5 8 (by decide) x
  · exact gate_piece x0 x1 x2 x3 x4 x5 7 (by decide) x
  · exact gate_piece x0 x1 x2 x3 x4 x5 6 (by decide) x
  · exact plain_piece x0 x1 x2 x3 x4 x5 5 (by decide) x
  · exact plain_piece x0 x1 x2 x3 x4 x5 4 (by decide) x
  · exact rope_piece x0 x1 x2 x3 x4 x5 3 (by decide) x
  · exact rope_piece x0 x1 x2 x3 x4 x5 2 (by decide) x
  · exact rope_piece x0 x1 x2 x3 x4 x5 1 (by decide) x
  · exact rope_piece x0 x1 x2 x3 x4 x5 0 (by decide) x

end Cert.Kernel3Ideal.ProjValue
-- ==== Proof.ProjRef.lean ====
/- The reference's projection read at an index, stage by stage. -/
module

public import proofs.«01_k».proof.Proof.Gen.Reference3Ideal.Read
public import proofs.«01_k».proof.Proof.ProjMath
public import Idealize.ShloMosaic.Lib.Pointwise

@[expose] public section

set_option maxRecDepth 16384

noncomputable section

namespace Cert.Reference3Ideal.ProjRef

open Cert.Reference3Ideal Cert.Reference3Ideal.Gen Cert.Reference3Ideal.Read Idealize.ShloMosaic Idealize.ShloMosaic.TcCoe Idealize.SL.Sem
open Cert.ProjMath

variable (x0 : FVec Ideal S32x2048x1024 .f32) (x1 : FVec Ideal S40x6x1024 .f32) (x2 : FVec Ideal S1x1024 .f32) (x3 : FVec Ideal S1024x5632 .bf16)
  (x4 x5 : FVec Ideal S2048x128 .f32)

/-- Token `n` of entry `b`, after its norm, scale and shift. -/
def row (b : Fin 32) (n : Fin 2048) : Fin 1024 → EReal :=
  normRow (fun d => x0 (ix3 b n d)) (fun d => x2 (ix2 0 d)) (fun d => x1 (ix3 ⟨b.val, by omega⟩ 1 d)) (fun d => x1 (ix3 ⟨b.val, by omega⟩ 0 d))

/-- The products of that token with the columns of the weights. -/
def prods (b : Fin 32) (n : Fin 2048) : Fin 5632 → EReal := rowDot (row x0 x1 x2 b n) (fun d c => x3 (ix2 d c))

/-- The normalised, scaled and shifted tokens. -/
theorem token_at (b : Fin 32) (n : Fin 2048) (d : Fin 1024) : val_main_v25 (F := Ideal) x0 x1 x2 (ix3 b n d) = row x0 x1 x2 b n d := by
  pointwise [val_main_v25, val_main_v24, val_main_v23, val_main_v22, val_main_v21, val_main_v20, val_main_cst_2, val_main_v19, val_main_v18,
    val_main_v17, val_main_v16, val_main_v15, val_main_v14, val_main_v13, val_main_v12, val_main_v11, val_main_v10, val_main_v9, val_main_v8,
    val_main_v7, val_main_v6, val_main_cst_1, val_main_v5, val_main_v4, val_main_cst_0, val_main_v3, val_main_v2, val_main_cst, val_main_v1, val_main_v0]
  rfl

/-- Their products with the weights. -/
theorem prod_at (b : Fin 32) (n : Fin 2048) (c : Fin 5632) : val_main_v27 (F := Ideal) x0 x1 x2 x3 (ix3 b n c) = prods x0 x1 x2 x3 b n c := by
  have : val_main_v27 (F := Ideal) x0 x1 x2 x3 (ix3 b n c) = ∑ d : Fin 1024, val_main_v25 (F := Ideal) x0 x1 x2 (ix3 b n d) * x3 (ix2 d c) := by
    pointwise [val_main_v27, val_main_v26]
  rw [this]
  simp only [token_at]
  rfl

/-- The table of cosines, spread over the heads. -/
theorem cos_at (n : Fin 2048) (h : Fin 64) (e : Fin 32) : val_main_v33 (F := Ideal) x4 (ix3 n h e) = x4 (ix2 n ⟨(h.val * 32 + e.val) % 128, by omega⟩) := by
  pointwise [val_main_v33, val_main_v32, val_main_v31, val_main_v30]

/-- The table of sines, spread over the heads. -/
theorem sin_at (n : Fin 2048) (h : Fin 64) (e : Fin 32) : val_main_v37 (F := Ideal) x5 (ix3 n h e) = x5 (ix2 n ⟨(h.val * 32 + e.val) % 128, by omega⟩) := by
  pointwise [val_main_v37, val_main_v36, val_main_v35, val_main_v34]

/-- The products of a head of 32 columns. -/
theorem head_at (b : Fin 32) (n : Fin 2048) (h : Fin 64) (e : Fin 32) :
    val_main_v29 (F := Ideal) x0 x1 x2 x3 (ix4 b n h e) = prods x0 x1 x2 x3 b n ⟨h.val * 32 + e.val, by omega⟩ := by
  pointwise [val_main_v29, val_main_v28]
  exact prod_at x0 x1 x2 x3 b n _

/-- The same head with its two halves exchanged: every column's partner. -/
theorem half_at (b : Fin 32) (n : Fin 2048) (h : Fin 64) (e : Fin 32) :
    val_main_v43 (F := Ideal) x0 x1 x2 x3 (ix4 b n h e)
      = prods x0 x1 x2 x3 b n ⟨partner (h.val * 32 + e.val), partner_lt (by decide) (by omega)⟩ := by
  pointwise [val_main_v43, val_main_v39, val_main_v38]
  have he : e.val < 32 := e.isLt
  by_cases h1 : e.val < 16
  · rw [dif_pos h1, head_at]
    refine congrArg (prods x0 x1 x2 x3 b n) (Fin.ext ?_)
    show h.val * 32 + (16 + e.val) = partner (h.val * 32 + e.val)
    unfold partner; rw [if_pos (by omega)]; omega
  · rw [dif_neg h1, head_at]
    refine congrArg (prods x0 x1 x2 x3 b n) (Fin.ext ?_)
    show h.val * 32 + (e.val - 16) = partner (h.val * 32 + e.val)
    unfold partner; rw [if_neg (by omega)]; omega

/-- The turned columns. -/
theorem turned_at (b : Fin 32) (n : Fin 2048) (h : Fin 64) (e : Fin 32) :
    val_main_v47 (F := Ideal) x0 x1 x2 x3 x4 x5 (ix4 b n h e)
      = prods x0 x1 x2 x3 b n ⟨h.val * 32 + e.val, by omega⟩ * x4 (ix2 n ⟨(h.val * 32 + e.val) % 128, by omega⟩)
        + prods x0 x1 x2 x3 b n ⟨partner (h.val * 32 + e.val), partner_lt (by decide) (by omega)⟩ * x5 (ix2 n ⟨(h.val * 32 + e.val) % 128, by omega⟩) := by
  pointwise [val_main_v47, val_main_v46, val_main_v45, val_main_v44, val_main_v42, val_main_v41, val_main_v40]
  rw [head_at, half_at, cos_at, sin_at]

/-- The reference's result at entry `b`, token `n` and column `c`. -/
theorem ref_at (b : Fin 32) (n : Fin 2048) (c : Fin 5632) :
    val_main_v59 (F := Ideal) x0 x1 x2 x3 x4 x5 (ix3 b n c)
      = cell (prods x0 x1 x2 x3 b n) (fun l => x4 (ix2 n l)) (fun l => x5 (ix2 n l)) c := by
  pointwise [val_main_v59, val_main_v58, val_main_v57, val_main_v56, val_main_v55, val_main_cst_4, val_main_v54, val_main_v53, val_main_cst_3, val_main_v52,
    val_main_v51, val_main_v50, val_main_v49, val_main_v48]
  unfold cell
  have hc : c.val < 5632 := c.isLt
  have at_col : ∀ (z : Fin 5632), z.val = c.val → val_main_v27 (F := Ideal) x0 x1 x2 x3 (ix3 b n z) = prods x0 x1 x2 x3 b n c := by
    intro z hz
    rw [prod_at, show z = c from Fin.ext hz]
  by_cases h1 : c.val < 2048
  · rw [dif_pos h1, if_pos h1, turned_at]
    have ec : c.val / 32 * 32 + c.val % 32 = c.val := by omega
    simp only [ec]
  · rw [dif_neg h1, if_neg h1]
    by_cases h2 : c.val < 3072
    · rw [dif_pos (by omega), if_pos h2, at_col _ (by show 2048 + (c.val - 2048) = c.val; omega)]
    · rw [dif_neg (by omega), if_neg h2]
      by_cases h3 : c.val < 5120
      · rw [dif_pos (by omega), if_pos h3, at_col _ (by show 3072 + (c.val - 2048 - 1024) = c.val; omega)]
        rfl
      · rw [dif_neg (by omega), if_neg h3, at_col _ (by show 5120 + (c.val - 2048 - 1024 - 2048) = c.val; omega)]

end Cert.Reference3Ideal.ProjRef
-- ==== Proof.ProjArray.lean ====
/- The projection kernel's result array: every token's products with the weights, finished as its column asks. -/
module

public import proofs.«01_k».proof.Proof.Gen.Kernel3Ideal.Value
public import proofs.«01_k».proof.Proof.ProjRead
public import proofs.«01_k».proof.Proof.ProjRef
public import Idealize.ShloMosaic.Lib.Pipeline.ValueKit

@[expose] public section

set_option maxRecDepth 16384

noncomputable section

namespace Cert.Kernel3Ideal.ProjValue

open Cert.Kernel3Ideal Cert.Kernel3Ideal.Gen Idealize.ShloMosaic Idealize.ShloMosaic.TcCoe Idealize.SL.Sem
open Idealize.ShloMosaic.Pipeline (Dat)
open Cert.ProjMath Cert.Reference3Ideal.ProjRef

/-- The kernel's result as a function of its arguments. -/
def projOut (a0 : FVec Ideal S32x2048x1024 .f32) (a1 : FVec Ideal S40x6x1024 .f32) (a2 : FVec Ideal S1x1024 .f32) (a3 : FVec Ideal S1024x5632 .bf16)
    (a4 a5 : FVec Ideal S2048x128 .f32) : FVec Ideal S32x2048x5632 .bf16 := fun y =>
  cell (prods a0 a1 a2 a3 (y 0) (y 1)) (fun l => a4 (ix2 (y 1) l)) (fun l => a5 (ix2 (y 1) l)) (y 2)

variable (m : (ℓ : Loc nD τ sig) → Buf (Elt Ideal) ℓ)

/-- The blocks of a grid point: a batch entry's half of the tokens, its modulation rows, and the whole weights. -/
theorem idx (t : Fin cfg0.N) : win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![(grid0.coords t 1).val, 0] ∧ win0_5.index t = ![(grid0.coords t 1).val, 0]
    ∧ win0_6.index t = ![(grid0.coords t 0).val, (grid0.coords t 1).val, 0] :=
  (by decide +kernel : ∀ t : Fin grid0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![(grid0.coords t 1).val, 0] ∧ win0_5.index t = ![(grid0.coords t 1).val, 0]
    ∧ win0_6.index t = ![(grid0.coords t 0).val, (grid0.coords t 1).val, 0]) t

/-- The batch entry of a grid point. -/
def batch (t : Fin cfg0.N) : Fin 32 := ⟨(grid0.coords t 0).val, (grid0.coords t 0).isLt⟩

/-- The token that is row `i` of a grid point's block. -/
def tokenOf (t : Fin cfg0.N) (i : Fin 1024) : Fin 2048 :=
  ⟨(grid0.coords t 1).val * 1024 + i.val, by have h : (grid0.coords t 1).val < 2 := (grid0.coords t 1).isLt; omega⟩

theorem x_eq (c : Dev nD) (t : Fin cfg0.N) (i d : Fin 1024) : (iblk m c 0 t : FVec Ideal S1x1024x1024 .f32) (ix3 0 i d)
    = (m ((c : Thread nD τ).loc main_arg0) : FVec Ideal S32x2048x1024 .f32) (ix3 (batch t) (tokenOf t i) d) := by
  unfold batch tokenOf
  blk_ext [iblk, V, idx t]

theorem mod_eq (c : Dev nD) (t : Fin cfg0.N) (r : Fin 6) (d : Fin 1024) : (iblk m c 1 t : FVec Ideal S1x6x1024 .f32) (ix3 0 r d)
    = (m ((c : Thread nD τ).loc main_arg1) : FVec Ideal S40x6x1024 .f32) (ix3 ⟨(batch t).val, by omega⟩ r d) := by
  unfold batch
  blk_ext [iblk, V, idx t]

theorem gain_eq (c : Dev nD) (t : Fin cfg0.N) (d : Fin 1024) : (iblk m c 2 t : FVec Ideal S1x1024 .f32) (ix2 0 d)
    = (m ((c : Thread nD τ).loc main_arg2) : FVec Ideal S1x1024 .f32) (ix2 0 d) := by
  blk_ext [iblk, V, idx t]

theorem weight_eq (c : Dev nD) (t : Fin cfg0.N) (d : Fin 1024) (k : Fin 5632) : (iblk m c 3 t : FVec Ideal S1024x5632 .bf16) (ix2 d k)
    = (m ((c : Thread nD τ).loc main_arg3) : FVec Ideal S1024x5632 .bf16) (ix2 d k) := by
  blk_ext [iblk, V, idx t]

theorem cos_eq (c : Dev nD) (t : Fin cfg0.N) (i : Fin 1024) (l : Fin 128) : (iblk m c 4 t : FVec Ideal S1024x128 .f32) (ix2 i l)
    = (m ((c : Thread nD τ).loc main_arg4) : FVec Ideal S2048x128 .f32) (ix2 (tokenOf t i) l) := by
  unfold tokenOf
  blk_ext [iblk, V, idx t]

theorem sin_eq (c : Dev nD) (t : Fin cfg0.N) (i : Fin 1024) (l : Fin 128) : (iblk m c 5 t : FVec Ideal S1024x128 .f32) (ix2 i l)
    = (m ((c : Thread nD τ).loc main_arg5) : FVec Ideal S2048x128 .f32) (ix2 (tokenOf t i) l) := by
  unfold tokenOf
  blk_ext [iblk, V, idx t]

/-- What a grid point leaves at an index of its block, over the whole arrays. -/
theorem cell_eq (c : Dev nD) (t : Fin cfg0.N) (i : Fin 1024) (k : Fin 5632) :
    cellB (iblk m c 0 t) (iblk m c 1 t) (iblk m c 2 t) (iblk m c 3 t) (iblk m c 4 t) (iblk m c 5 t) i k
      = projOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix3 (batch t) (tokenOf t i) k) := by
  unfold cellB rowB
  simp only [x_eq, mod_eq, gain_eq, weight_eq, cos_eq, sin_eq]
  rfl

/-- The kernel's result array after the run. -/
theorem array_eq (c : Dev nD) : (dats m 0 c).arrAt 6 cfg0.N
    = projOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, out_eq]
  have e0 : (((cfg0.win 6).blk t).view.emb y 0).val = (grid0.coords t 0).val := by
    have h0 : (y 0).val < 1 := (y 0).isLt
    blk_simp [idx t]
  have e1 : (((cfg0.win 6).blk t).view.emb y 1).val = (grid0.coords t 1).val * 1024 + (y 1).val := by
    blk_simp [idx t]
  have e2 : (((cfg0.win 6).blk t).view.emb y 2).val = (y 2).val := by
    blk_simp [idx t]
  have ey : ((cfg0.win 6).blk t).view.emb y = ix3 (batch t) (tokenOf t (y 1)) (y 2) := by
    funext a
    match a with
    | ⟨0, _⟩ => exact Fin.ext e0
    | ⟨1, _⟩ => exact Fin.ext e1
    | ⟨2, _⟩ => exact Fin.ext e2
  refine (cell_eq m c t (y 1) (y 2)).trans ?_
  exact congrArg _ ey.symm

end Cert.Kernel3Ideal.ProjValue

namespace Cert.Reference3Ideal.ProjRef

open Idealize.ShloMosaic

/-- The reference's result array is the kernel's, as functions of the arguments. -/
theorem ref_eq (x0 : FVec Ideal S32x2048x1024 .f32) (x1 : FVec Ideal S40x6x1024 .f32) (x2 : FVec Ideal S1x1024 .f32) (x3 : FVec Ideal S1024x5632 .bf16)
    (x4 x5 : FVec Ideal S2048x128 .f32) :
    Cert.Reference3Ideal.Read.val_main_v59 (F := Ideal) x0 x1 x2 x3 x4 x5 = Cert.Kernel3Ideal.ProjValue.projOut x0 x1 x2 x3 x4 x5 := by
  funext y
  have ey : y = ix3 (y 0) (y 1) (y 2) := by
    funext a
    match a with
    | ⟨0, _⟩ => rfl
    | ⟨1, _⟩ => rfl
    | ⟨2, _⟩ => rfl
  rw [ey]
  exact ref_at x0 x1 x2 x3 x4 x5 (y 0) (y 1) (y 2)

end Cert.Reference3Ideal.ProjRef
-- ==== Proof.CtxRef.lean ====
/- The reference's projection of the context tokens, read at an index. -/
module

public import proofs.«01_k».proof.Proof.Gen.Reference4Ideal.Read
public import proofs.«01_k».proof.Proof.ProjMath
public import Idealize.ShloMosaic.Lib.Pointwise

@[expose] public section

set_option maxRecDepth 16384

noncomputable section

namespace Cert.Reference4Ideal.CtxRef

open Cert.Reference4Ideal Cert.Reference4Ideal.Gen Cert.Reference4Ideal.Read Idealize.ShloMosaic Idealize.ShloMosaic.TcCoe Idealize.SL.Sem
open Cert.ProjMath

variable (x0 : FVec Ideal S32x256x1024 .f32) (x1 : FVec Ideal S40x6x1024 .f32) (x2 : FVec Ideal S1x1024 .f32) (x3 : FVec Ideal S1024x2048 .bf16)

/-- Context token `n` of entry `b`, after its norm, and the scale and shift that all context tokens share. -/
def row (b : Fin 32) (n : Fin 256) : Fin 1024 → EReal :=
  normRow (fun d => x0 (ix3 b n d)) (fun d => x2 (ix2 0 d)) (fun d => x1 (ix3 32 1 d)) (fun d => x1 (ix3 32 0 d))

/-- The products of the context tokens with the weights. -/
def ctxOut : FVec Ideal S32x256x2048 .bf16 := fun y => rowDot (row x0 x1 x2 (y 0) (y 1)) (fun d c => x3 (ix2 d c)) (y 2)

theorem token_at (b : Fin 32) (n : Fin 256) (d : Fin 1024) : val_main_v25 (F := Ideal) x0 x1 x2 (ix3 b n d) = row x0 x1 x2 b n d := by
  pointwise [val_main_v25, val_main_v24, val_main_v23, val_main_v22, val_main_v21, val_main_v20, val_main_cst_2, val_main_v19, val_main_v18,
    val_main_v17, val_main_v16, val_main_v15, val_main_v14, val_main_v13, val_main_v12, val_main_v11, val_main_v10, val_main_v9, val_main_v8,
    val_main_v7, val_main_v6, val_main_cst_1, val_main_v5, val_main_v4, val_main_cst_0, val_main_v3, val_main_v2, val_main_cst, val_main_v1, val_main_v0]
  rfl

theorem ref_at (b : Fin 32) (n : Fin 256) (c : Fin 2048) :
    val_main_v28 (F := Ideal) x0 x1 x2 x3 (ix3 b n c) = rowDot (row x0 x1 x2 b n) (fun d c => x3 (ix2 d c)) c := by
  have : val_main_v28 (F := Ideal) x0 x1 x2 x3 (ix3 b n c) = ∑ d : Fin 1024, val_main_v25 (F := Ideal) x0 x1 x2 (ix3 b n d) * x3 (ix2 d c) := by
    pointwise [val_main_v28, val_main_v27, val_main_v26]
  rw [this]
  simp only [token_at]
  rfl

/-- The reference's result array. -/
theorem ref_eq : val_main_v28 (F := Ideal) x0 x1 x2 x3 = ctxOut x0 x1 x2 x3 := by
  funext y
  have ey : y = ix3 (y 0) (y 1) (y 2) := by
    funext a
    match a with
    | ⟨0, _⟩ => rfl
    | ⟨1, _⟩ => rfl
    | ⟨2, _⟩ => rfl
  rw [ey]
  exact ref_at x0 x1 x2 x3 (y 0) (y 1) (y 2)

end Cert.Reference4Ideal.CtxRef
-- ==== Proof.CtxArray.lean ====
/- The projection kernel on the context tokens: what a grid point computes, read at an index, and the result array. -/
module

public import proofs.«01_k».proof.Proof.Gen.Kernel4Ideal.Value
public import proofs.«01_k».proof.Proof.CtxRef
public import Idealize.ShloMosaic.Lib.Pointwise
public import Idealize.ShloMosaic.Lib.Pipeline.ValueKit

@[expose] public section

set_option maxRecDepth 16384

noncomputable section

namespace Cert.Kernel4Ideal.CtxValue

open Cert.Kernel4Ideal Cert.Kernel4Ideal.Gen Idealize.ShloMosaic Idealize.ShloMosaic.TcCoe Idealize.SL.Sem
open Idealize.ShloMosaic.Pipeline (Dat)
open Cert.ProjMath Cert.Reference4Ideal.CtxRef

section Any
variable {F : FTy → Type} [FloatOps F]

/-- The stored block of 512 columns: a block of normalised tokens times 512 columns of the weights. -/
def plainOf (h : FVec F S256x1024 .bf16) (w : Vec F S1024x512 .bf16) : FVec F S1x256x512 .bf16 :=
  shapeCast S1x256x512 (truncf .bf16 (matmul dot_S256x1024_S1024x512_S256x512_1_0_0_1_n_n none h w (constant S256x512 .f32 0x00000000#32))
    bitsLt_bf16_f32) shapeCasts_S256x512_S1x256x512

/-- The rectangle of the output's block that holds columns `512 k … 512 k + 511`. -/
def outRect (k : Fin 4) : Rect S1x256x2048 := Rect.unit ![0, 0, 512 * k.val] S1x256x512.size (by
  revert k; decide +kernel)

/-- The rectangle of the weights that holds the same columns. -/
def wRect (k : Fin 4) : Rect S1024x2048 := Rect.unit ![0, 512 * k.val] S1024x512.size (by
  revert k; decide +kernel)

variable (x0 : Vec F S1x256x1024 .f32) (x1 : Vec F S1x6x1024 .f32) (x2 : Vec F S1x1024 .f32) (x3 : Vec F S1024x2048 .bf16)
  (x4 x5 : Vec F S256x128 .f32)

/-- The block's normalised, scaled and shifted tokens. -/
def tokens : FVec F S256x1024 .bf16 := k0_pay4 (View.ld x0 r0_0) (View.ld x1 r0_1) (View.ld x1 r0_2) (View.ld x2 r0_3)

/-- The `k`-th stored piece. -/
def pieceAt (k : Fin 4) : View.Piece (Elt F) S1x256x2048 .bf16 := ⟨outRect k, plainOf (tokens x0 x1 x2) (View.ld x3 (wRect k))⟩

/-- What a grid point leaves, as its four pieces. -/
theorem out_pieces : out0_6 x0 x1 x2 x3 x4 x5
    = View.canon [pieceAt x0 x1 x2 x3 3, pieceAt x0 x1 x2 x3 2, pieceAt x0 x1 x2 x3 1, pieceAt x0 x1 x2 x3 0] := rfl

end Any

section Block
variable (x0 : FVec Ideal S1x256x1024 .f32) (x1 : FVec Ideal S1x6x1024 .f32) (x2 : FVec Ideal S1x1024 .f32) (x3 : FVec Ideal S1024x2048 .bf16)
  (x4 x5 : FVec Ideal S256x128 .f32)

/-- A token of the block, after its norm, scale and shift. -/
def rowB (i : Fin 256) : Fin 1024 → EReal :=
  normRow (fun d => x0 (ix3 0 i d)) (fun d => x2 (ix2 0 d)) (fun d => x1 (ix3 0 1 d)) (fun d => x1 (ix3 0 0 d))

theorem tokens_at (i : Fin 256) (d : Fin 1024) : tokens (F := Ideal) x0 x1 x2 (ix2 i d) = rowB x0 x1 x2 i d := by
  pointwise [tokens, k0_pay4]
  rfl

/-- The block that a grid point leaves, as one function of the block's index. -/
def blockOut : FVec Ideal S1x256x2048 .bf16 := fun y => rowDot (rowB x0 x1 x2 (y 1)) (fun d c => x3 (ix2 d c)) (y 2)

theorem plain_at (k : Fin 4) (i : Fin 256) (c : Fin 512) :
    plainOf (F := Ideal) (tokens (F := Ideal) x0 x1 x2) (View.ld (Val := Elt Ideal) (e' := .bf16) x3 (wRect k)) (ix3 0 i c)
      = rowDot (rowB x0 x1 x2 i) (fun d c => x3 (ix2 d c)) ⟨512 * k.val + c.val, by omega⟩ := by
  have h : ∀ (t : FVec Ideal S256x1024 .bf16), plainOf (F := Ideal) t (View.ld (Val := Elt Ideal) (e' := .bf16) x3 (wRect k)) (ix3 0 i c)
      = ∑ d : Fin 1024, t (ix2 i d) * x3 (ix2 d ⟨512 * k.val + c.val, by omega⟩) := by
    intro t
    pointwise [plainOf, wRect]
  rw [h]
  simp only [tokens_at]
  rfl

/-- A stored piece is the part of `blockOut` at its rectangle. -/
theorem piece_eq (k : Fin 4) (x : S1x256x512.Idx) :
    plainOf (F := Ideal) (tokens (F := Ideal) x0 x1 x2) (View.ld (Val := Elt Ideal) (e' := .bf16) x3 (wRect k)) x
      = blockOut x0 x1 x2 x3 ((outRect k).emb x) := by
  obtain ⟨i, c, rfl⟩ : ∃ (i : Fin 256) (c : Fin 512), x = ix3 (0 : Fin 1) i c := ⟨x 1, x 2, by
    funext a
    match a with
    | ⟨0, _⟩ => exact Subsingleton.elim (α := Fin 1) _ _
    | ⟨1, _⟩ => rfl
    | ⟨2, _⟩ => rfl⟩
  have er : (outRect k).emb (ix3 (0 : Fin 1) i c) 1 = i := by
    apply Fin.ext; show 0 + 1 * i.val = i.val; omega
  have ec : (outRect k).emb (ix3 (0 : Fin 1) i c) 2 = (⟨512 * k.val + c.val, by omega⟩ : Fin 2048) := by
    apply Fin.ext; show 512 * k.val + 1 * c.val = 512 * k.val + c.val; omega
  unfold blockOut
  rw [er, ec, plain_at]

/-- A grid point leaves `blockOut` of its input blocks in the output's buffer. -/
theorem out_eq : out0_6 (F := Ideal) x0 x1 x2 x3 x4 x5 = blockOut x0 x1 x2 x3 := by
  rw [out_pieces]
  funext y
  refine View.canon_apply_of_pieces (Val := Elt Ideal) (blockOut x0 x1 x2 x3) _ (fun p hp x => ?_) y (cover0_6 _ _ _ _ y)
  simp only [List.mem_cons, List.not_mem_nil, or_false] at hp
  rcases hp with rfl | rfl | rfl | rfl
  · exact piece_eq x0 x1 x2 x3 3 x
  · exact piece_eq x0 x1 x2 x3 2 x
  · exact piece_eq x0 x1 x2 x3 1 x
  · exact piece_eq x0 x1 x2 x3 0 x

end Block

variable (m : (ℓ : Loc nD τ sig) → Buf (Elt Ideal) ℓ)

/-- The blocks of a grid point: a batch entry's context tokens, the context's modulation rows, and the whole weights. -/
theorem idx (t : Fin cfg0.N) : win0_0.index t = ![(grid0.coords t 0).val, 0, 0] ∧ win0_1.index t = ![32, 0, 0]
    ∧ win0_2.index t = ![0, 0] ∧ win0_3.index t = ![0, 0] ∧ win0_6.index t = ![(grid0.coords t 0).val, 0, 0] :=
  (by decide +kernel : ∀ t : Fin grid0.N, win0_0.index t = ![(grid0.coords t 0).val, 0, 0] ∧ win0_1.index t = ![32, 0, 0]
    ∧ win0_2.index t = ![0, 0] ∧ win0_3.index t = ![0, 0] ∧ win0_6.index t = ![(grid0.coords t 0).val, 0, 0]) t

/-- The batch entry of a grid point. -/
def batch (t : Fin cfg0.N) : Fin 32 := ⟨(grid0.coords t 0).val, (grid0.coords t 0).isLt⟩

theorem x_eq (c : Dev nD) (t : Fin cfg0.N) (i : Fin 256) (d : Fin 1024) : (iblk m c 0 t : FVec Ideal S1x256x1024 .f32) (ix3 0 i d)
    = (m ((c : Thread nD τ).loc main_arg0) : FVec Ideal S32x256x1024 .f32) (ix3 (batch t) i d) := by
  unfold batch
  blk_ext [iblk, V, idx t]

theorem mod_eq (c : Dev nD) (t : Fin cfg0.N) (r : Fin 6) (d : Fin 1024) : (iblk m c 1 t : FVec Ideal S1x6x1024 .f32) (ix3 0 r d)
    = (m ((c : Thread nD τ).loc main_arg1) : FVec Ideal S40x6x1024 .f32) (ix3 32 r d) := by
  blk_ext [iblk, V, idx t]

theorem gain_eq (c : Dev nD) (t : Fin cfg0.N) (d : Fin 1024) : (iblk m c 2 t : FVec Ideal S1x1024 .f32) (ix2 0 d)
    = (m ((c : Thread nD τ).loc main_arg2) : FVec Ideal S1x1024 .f32) (ix2 0 d) := by
  blk_ext [iblk, V, idx t]

theorem weight_eq (c : Dev nD) (t : Fin cfg0.N) (d : Fin 1024) (k : Fin 2048) : (iblk m c 3 t : FVec Ideal S1024x2048 .bf16) (ix2 d k)
    = (m ((c : Thread nD τ).loc main_arg3) : FVec Ideal S1024x2048 .bf16) (ix2 d k) := by
  blk_ext [iblk, V, idx t]

/-- What a grid point leaves at an index of its block, over the whole arrays. -/
theorem block_eq (c : Dev nD) (t : Fin cfg0.N) (i : Fin 256) (k : Fin 2048) :
    blockOut (iblk m c 0 t) (iblk m c 1 t) (iblk m c 2 t) (iblk m c 3 t) (ix3 0 i k)
      = ctxOut (m ((c : Thread nD τ).loc main_arg0)) (m ((c : Thread nD τ).loc main_arg1)) (m ((c : Thread nD τ).loc main_arg2))
          (m ((c : Thread nD τ).loc main_arg3)) (ix3 (batch t) i k) := by
  show rowDot (rowB (iblk m c 0 t) (iblk m c 1 t) (iblk m c 2 t) i)
    (fun d c' => (iblk m c 3 t : FVec Ideal S1024x2048 .bf16) (ix2 d c')) k = _
  unfold rowB
  simp only [x_eq, mod_eq, gain_eq, weight_eq]
  rfl

/-- The kernel's result array after the run. -/
theorem array_eq (c : Dev nD) : (dats m 0 c).arrAt 6 cfg0.N
    = ctxOut (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  blk_simp
  rw [after0_6, out_eq]
  have e0 : (((cfg0.win 6).blk t).view.emb y 0).val = (grid0.coords t 0).val := by
    have h0 : (y 0).val < 1 := (y 0).isLt
    blk_simp [idx t]
  have e1 : (((cfg0.win 6).blk t).view.emb y 1).val = (y 1).val := by
    blk_simp [idx t]
  have e2 : (((cfg0.win 6).blk t).view.emb y 2).val = (y 2).val := by
    blk_simp [idx t]
  have ey : ((cfg0.win 6).blk t).view.emb y = ix3 (batch t) (y 1) (y 2) := by
    funext a
    match a with
    | ⟨0, _⟩ => exact Fin.ext e0
    | ⟨1, _⟩ => exact Fin.ext e1
    | ⟨2, _⟩ => exact Fin.ext e2
  refine (block_eq m c t (y 1) (y 2)).trans ?_
  exact congrArg _ ey.symm

end Cert.Kernel4Ideal.CtxValue
-- ==== Proof.ModArray.lean ====
/- The modulation: the reference read at an index, what a grid point of the kernel computes, and the kernel's result array. -/
module

public import proofs.«01_k».proof.Proof.Gen.Kernel5Ideal.Value
public import proofs.«01_k».proof.Proof.Gen.Reference5Ideal.Read
public import proofs.«01_k».proof.Proof.ProjMath
public import Idealize.ShloMosaic.Lib.Pointwise
public import Idealize.ShloMosaic.Lib.Pipeline.ValueKit

@[expose] public section

set_option maxRecDepth 16384

noncomputable section

namespace Cert.Kernel5Ideal.ModValue

open Cert.Kernel5Ideal Cert.Kernel5Ideal.Gen Idealize.ShloMosaic Idealize.ShloMosaic.TcCoe Idealize.SL.Sem
open Idealize.ShloMosaic.Pipeline (Dat)
open Cert.ProjMath

/-- A conditioning vector's entry times its logistic function. -/
def silu (x : EReal) : EReal := x * logistic x

/-- Each conditioning vector, through `silu`, times the weights, and the bias. -/
def modOut (a0 : FVec Ideal S40x1024 .f32) (a1 : FVec Ideal S1024x6144 .f32) (a2 : FVec Ideal S1x6144 .f32) : FVec Ideal S40x6144 .f32 := fun y =>
  rowDot (fun d => silu (a0 (ix2 (y 0) d))) (fun d c => a1 (ix2 d c)) (y 1) + a2 (ix2 0 (y 1))

section Block
variable (x0 : FVec Ideal S40x1024 .f32) (x1 : FVec Ideal S1024x1024 .f32) (x2 : FVec Ideal S1x1024 .f32)

/-- The block that a grid point leaves, as one function of the block's index. -/
def blockOut : FVec Ideal S40x1024 .f32 := fun y =>
  rowDot (fun d => silu (x0 (ix2 (y 0) d))) (fun d c => x1 (ix2 d c)) (y 1) + x2 (ix2 0 (y 1))

theorem pay_at (r : Fin 40) (k : Fin 1024) : k0_pay1 (F := Ideal) (View.ld (Val := Elt Ideal) (e' := .f32) x0 r0_0)
      (View.ld (Val := Elt Ideal) (e' := .f32) x1 r0_1) (View.ld (Val := Elt Ideal) (e' := .f32) x2 r0_2) (ix2 r k)
    = blockOut x0 x1 x2 (ix2 r k) := by
  pointwise [k0_pay1]
  simp only [zero_sub]
  rfl

/-- A grid point leaves `blockOut` of its input blocks in the output's buffer. -/
theorem out_eq : out0_3 (F := Ideal) x0 x1 x2 = blockOut x0 x1 x2 := by
  funext y
  refine View.canon_apply_of_pieces (Val := Elt Ideal) (blockOut x0 x1 x2) _ (fun p hp x => ?_) y (cover0_3 _ y)
  simp only [List.mem_cons, List.not_mem_nil, or_false] at hp
  subst hp
  have ex : x = ix2 (x 0) (x 1) := by
    funext a
    match a with
    | ⟨0, _⟩ => rfl
    | ⟨1, _⟩ => rfl
  have ey : r0_0.emb x = ix2 (x 0) (x 1) := by
    funext a
    match a with
    | ⟨0, _⟩ => exact Fin.ext (show 0 + 1 * (x 0).val = (x 0).val by omega)
    | ⟨1, _⟩ => exact Fin.ext (show 0 + 1 * (x 1).val = (x 1).val by omega)
  refine (congrArg _ ex).trans ((pay_at x0 x1 x2 (x 0) (x 1)).trans ?_)
  exact congrArg _ ey.symm

end Block

variable (m : (ℓ : Loc nD τ sig) → Buf (Elt Ideal) ℓ)

/-- The blocks of a grid point: all conditioning vectors, and 1024 columns of the weights and of the bias. -/
theorem idx (t : Fin cfg0.N) : win0_0.index t = ![0, 0] ∧ win0_1.index t = ![0, (grid0.coords t 0).val]
    ∧ win0_2.index t = ![0, (grid0.coords t 0).val] ∧ win0_3.index t = ![0, (grid0.coords t 0).val] :=
  (by decide +kernel : ∀ t : Fin grid0.N, win0_0.index t = ![0, 0] ∧ win0_1.index t = ![0, (grid0.coords t 0).val]
    ∧ win0_2.index t = ![0, (grid0.coords t 0).val] ∧ win0_3.index t = ![0, (grid0.coords t 0).val]) t

/-- The column that is column `k` of a grid point's block. -/
def colOf (t : Fin cfg0.N) (k : Fin 1024) : Fin 6144 :=
  ⟨(grid0.coords t 0).val * 1024 + k.val, by have h : (grid0.coords t 0).val < 6 := (grid0.coords t 0).isLt; omega⟩

theorem cond_eq (c : Dev nD) (t : Fin cfg0.N) (r : Fin 40) (d : Fin 1024) : (iblk m c 0 t : FVec Ideal S40x1024 .f32) (ix2 r d)
    = (m ((c : Thread nD τ).loc main_arg0) : FVec Ideal S40x1024 .f32) (ix2 r d) := by
  blk_ext [iblk, V, idx t]

theorem weight_eq (c : Dev nD) (t : Fin cfg0.N) (d k : Fin 1024) : (iblk m c 1 t : FVec Ideal S1024x1024 .f32) (ix2 d k)
    = (m ((c : Thread nD τ).loc main_arg1) : FVec Ideal S1024x6144 .f32) (ix2 d (colOf t k)) := by
  unfold colOf
  blk_ext [iblk, V, idx t]

theorem bias_eq (c : Dev nD) (t : Fin cfg0.N) (k : Fin 1024) : (iblk m c 2 t : FVec Ideal S1x1024 .f32) (ix2 0 k)
    = (m ((c : Thread nD τ).loc main_arg2) : FVec Ideal S1x6144 .f32) (ix2 0 (colOf t k)) := by
  unfold colOf
  blk_ext [iblk, V, idx t]

/-- What a grid point leaves at an index of its block, over the whole arrays. -/
theorem block_eq (c : Dev nD) (t : Fin cfg0.N) (r : Fin 40) (k : Fin 1024) :
    blockOut (iblk m c 0 t) (iblk m c 1 t) (iblk m c 2 t) (ix2 r k)
      = modOut (m ((c : Thread nD τ).loc main_arg0)) (m ((c : Thread nD τ).loc main_arg1)) (m ((c : Thread nD τ).loc main_arg2)) (ix2 r (colOf t k)) := by
  show rowDot (fun d => silu ((iblk m c 0 t : FVec Ideal S40x1024 .f32) (ix2 r d)))
    (fun d c' => (iblk m c 1 t : FVec Ideal S1024x1024 .f32) (ix2 d c')) k + (iblk m c 2 t : FVec Ideal S1x1024 .f32) (ix2 0 k) = _
  unfold rowDot
  simp only [cond_eq, weight_eq, bias_eq]
  rfl

/-- The kernel's result array after the run. -/
theorem array_eq (c : Dev nD) : (dats m 0 c).arrAt 3 cfg0.N
    = modOut (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq]
  have e0 : (((cfg0.win 3).blk t).view.emb y 0).val = (y 0).val := by
    blk_simp [idx t]
  have e1 : (((cfg0.win 3).blk t).view.emb y 1).val = (grid0.coords t 0).val * 1024 + (y 1).val := by
    blk_simp [idx t]
  have ey : ((cfg0.win 3).blk t).view.emb y = ix2 (y 0) (colOf t (y 1)) := by
    funext a
    match a with
    | ⟨0, _⟩ => exact Fin.ext e0
    | ⟨1, _⟩ => exact Fin.ext e1
  have e : y = ix2 (y 0) (y 1) := by
    funext a
    match a with
    | ⟨0, _⟩ => rfl
    | ⟨1, _⟩ => rfl
  refine (congrArg _ e).trans ((block_eq m c t (y 0) (y 1)).trans ?_)
  exact congrArg _ ey.symm

end Cert.Kernel5Ideal.ModValue

namespace Cert.Reference5Ideal.ModRef

open Cert.Reference5Ideal Cert.Reference5Ideal.Gen Cert.Reference5Ideal.Read Idealize.ShloMosaic
open Cert.ProjMath Cert.Kernel5Ideal.ModValue

/-- The reference's result array is the kernel's, as functions of the arguments. -/
theorem ref_eq (x0 : FVec Ideal S40x1024 .f32) (x1 : FVec Ideal S1024x6144 .f32) (x2 : FVec Ideal S1x6144 .f32) :
    val_main_v5 (F := Ideal) x0 x1 x2 = modOut x0 x1 x2 := by
  funext y
  have ey : y = ix2 (y 0) (y 1) := by
    funext a
    match a with
    | ⟨0, _⟩ => rfl
    | ⟨1, _⟩ => rfl
  have h : ∀ (r : Fin 40) (k : Fin 6144), val_main_v5 (F := Ideal) x0 x1 x2 (ix2 r k) = modOut x0 x1 x2 (ix2 r k) := by
    intro r k
    pointwise [val_main_v5, val_main_v4, val_main_v3, val_main_v2, val_main_v1, val_main_v0, val_main_call0_v5, val_main_call0_v4, val_main_call0_v3,
      val_main_call0_v2, val_main_call0_v1, val_main_call0_v0, val_main_call0_cst, val_main_call0_cst_0]
    rfl
  rw [ey]
  exact h (y 0) (y 1)

end Cert.Reference5Ideal.ModRef
-- ==== Proof.lean ====
/- The claims of the two calls, put together: the attention's (frames, `preserves`, `algebraic` under `finite`) from the
   modules `Attn…`, the experts' (frames under `routed`, `preserves`, `algebraic` under `gated`) from the modules `Moe…`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.AttnEq
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.MoeOk
public import proofs.«01_k».proof.Proof.MoeBits
public import proofs.«01_k».proof.Proof.MoeEq
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.ProjArray
public import proofs.«01_k».proof.Proof.CtxArray
public import proofs.«01_k».proof.Proof.ModArray
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs to its end and leaves its arguments as they were; it declares no semaphore. -/
theorem frame_ri [Cert.ReferenceIdeal.Facts] (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The attention kernel and its reference leave the same result. -/
theorem algebraic [Cert.Pre_finite.Facts] : Cert.algebraic_KernelIdeal_ReferenceIdeal_pre_finite := by
  intro m g m' g' hpre hargs
  refine ⟨fun c => Cert.KernelIdeal.AttnValue.attnOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Value.run_blocks (F := Ideal) m g)
    exact ⟨(h c).1.trans (Cert.KernelIdeal.AttnValue.array_eq m c), (h c).2⟩
  · refine (θ_run Cert.ReferenceIdeal.defs _ _).mono (fun r h c => ?_) (Cert.ReferenceIdeal.Value.run (F := Ideal) m' g')
    refine ⟨(h c).1.trans ?_, (h c).2⟩
    rw [Cert.ReferenceIdeal.Read.val_main_v55_eq, (hargs c).1, (hargs c).2.1, (hargs c).2.2.1, (hargs c).2.2.2]
    exact (Cert.AttnEq.attn_eq _ (Cert.AttnEq.fin_of_pre _ (hpre c).1 (hpre c).2.1 (hpre c).2.2)).symm

/-- The experts' reference runs to its end and leaves its arguments as they were. -/
theorem frame_ri2 [Cert.Reference2Ideal.Facts] (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run (F := Ideal) m ρ)

open Cert.Kernel2Ideal.Moe (ok_of_args routed_a routed_b gated_a gated_b gated_gate)

/-- The experts' kernel, as run on words, keeps its arguments where its tables name experts. -/
theorem frame_k2 [Cert.Pre_routed.Facts] : Cert.quiescent_Kernel2 := fun m ρ h =>
  Cert.Kernel2.Moe.frame m ρ (ok_of_args (F := Bits) m (routed_a _ _ _ _ _ _ _ _ (h 0).1) (routed_b _ _ _ _ _ _ _ _ (h 0).2))

/-- The idealized one likewise. -/
theorem frame_ki2 [Cert.Pre_routed.Facts] : Cert.quiescent_Kernel2Ideal := fun m ρ h =>
  Cert.Kernel2Ideal.Moe.frame m ρ (ok_of_args m (routed_a _ _ _ _ _ _ _ _ (h 0).1) (routed_b _ _ _ _ _ _ _ _ (h 0).2))

/-- And under the value claim's precondition. -/
theorem frame_ki2_gated [Cert.Pre_gated.Facts] : Cert.quiescent_Kernel2Ideal_pre_gated := fun m ρ h =>
  Cert.Kernel2Ideal.Moe.frame m ρ (ok_of_args m (gated_a _ _ _ _ _ _ _ _ (h 0).1) (gated_b _ _ _ _ _ _ _ _ (h 0).2.1))

/-- The experts' kernel and its reference leave the same result. -/
theorem algebraic2 [Cert.Pre_gated.Facts] : Cert.algebraic_Kernel2Ideal_Reference2Ideal_pre_gated := by
  intro m g m' g' hpre hargs
  have ha := gated_a _ _ _ _ _ _ _ _ (hpre 0).1
  have hb := gated_b _ _ _ _ _ _ _ _ (hpre 0).2.1
  have hO : Cert.Kernel2Ideal.Moe.Ok m := ok_of_args m ha hb
  refine ⟨fun c => Cert.Reference2Ideal.Read.val_main_v39 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)), ?_, ?_⟩
  · refine (θ_run Cert.Kernel2Ideal.defs _ _).mono (fun r h c => ⟨(h c).1.trans ?_, (h c).2⟩) (Cert.Kernel2Ideal.Moe.run_value m g hO)
    obtain rfl : c = 0 := Subsingleton.elim _ _
    exact (Cert.Kernel2Ideal.Moe.array_eq m hO 0 ha hb).trans
      (Cert.Kernel2Ideal.Moe.moeArr_eq _ _ _ _ _ _ _ _ _ _ (gated_gate _ _ _ _ _ _ _ _ (hpre 0).2.2))
  · refine (θ_run Cert.Reference2Ideal.defs _ _).mono (fun r h c => ⟨(h c).1.trans ?_, (h c).2⟩) (Cert.Reference2Ideal.Value.run (F := Ideal) m' g')
    obtain ⟨h0, h1, h2, h3, h4, h5, h6, h7⟩ := hargs c
    rw [Cert.Reference2Ideal.Read.val_main_v39_eq, h0, h1, h2, h3, h4, h5, h6, h7]

/-- The projection's reference runs to its end and leaves its arguments as they were. -/
theorem frame_ri3 [Cert.Reference3Ideal.Facts] (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The projection kernel and its reference leave the same result, whatever the arguments. -/
theorem algebraic3 : Cert.algebraic_Kernel3Ideal_Reference3Ideal := by
  intro m g m' g' _ hargs
  refine ⟨fun c => Cert.Kernel3Ideal.ProjValue.projOut (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)), ?_, ?_⟩
  · refine (θ_run Cert.Kernel3Ideal.defs _ _).mono (fun r h c => ?_) (Cert.Kernel3Ideal.Value.run_blocks (F := Ideal) m g)
    exact ⟨(h c).1.trans (Cert.Kernel3Ideal.ProjValue.array_eq m c), (h c).2⟩
  · refine (θ_run Cert.Reference3Ideal.defs _ _).mono (fun r h c => ⟨(h c).1.trans ?_, (h c).2⟩) (Cert.Reference3Ideal.Value.run (F := Ideal) m' g')
    obtain ⟨h0, h1, h2, h3, h4, h5⟩ := hargs c
    rw [Cert.Reference3Ideal.Read.val_main_v59_eq, h0, h1, h2, h3, h4, h5]
    exact Cert.Reference3Ideal.ProjRef.ref_eq _ _ _ _ _ _

theorem frame_ri4 [Cert.Reference4Ideal.Facts] (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The projection kernel and its reference on the context tokens leave the same result, whatever the arguments. -/
theorem algebraic4 : Cert.algebraic_Kernel4Ideal_Reference4Ideal := by
  intro m g m' g' _ hargs
  refine ⟨fun c => Cert.Reference4Ideal.CtxRef.ctxOut (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), ?_, ?_⟩
  · refine (θ_run Cert.Kernel4Ideal.defs _ _).mono (fun r h c => ?_) (Cert.Kernel4Ideal.Value.run_blocks (F := Ideal) m g)
    exact ⟨(h c).1.trans (Cert.Kernel4Ideal.CtxValue.array_eq m c), (h c).2⟩
  · refine (θ_run Cert.Reference4Ideal.defs _ _).mono (fun r h c => ⟨(h c).1.trans ?_, (h c).2⟩) (Cert.Reference4Ideal.Value.run (F := Ideal) m' g')
    obtain ⟨h0, h1, h2, h3, _, _⟩ := hargs c
    rw [Cert.Reference4Ideal.Read.val_main_v28_eq, h0, h1, h2, h3]
    exact Cert.Reference4Ideal.CtxRef.ref_eq _ _ _ _

theorem frame_ri5 [Cert.Reference5Ideal.Facts] (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0) :=
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The modulation kernel and its reference leave the same result, whatever the arguments. -/
theorem algebraic5 : Cert.algebraic_Kernel5Ideal_Reference5Ideal := by
  intro m g m' g' _ hargs
  refine ⟨fun c => Cert.Kernel5Ideal.ModValue.modOut (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)), ?_, ?_⟩
  · refine (θ_run Cert.Kernel5Ideal.defs _ _).mono (fun r h c => ?_) (Cert.Kernel5Ideal.Value.run_blocks (F := Ideal) m g)
    exact ⟨(h c).1.trans (Cert.Kernel5Ideal.ModValue.array_eq m c), (h c).2⟩
  · refine (θ_run Cert.Reference5Ideal.defs _ _).mono (fun r h c => ⟨(h c).1.trans ?_, (h c).2⟩) (Cert.Reference5Ideal.Value.run (F := Ideal) m' g')
    obtain ⟨h0, h1, h2⟩ := hargs c
    rw [Cert.Reference5Ideal.Read.val_main_v5_eq, h0, h1, h2]
    exact Cert.Reference5Ideal.ModRef.ref_eq _ _ _

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts,
  Cert.AttnEq.pre_facts, Cert.Kernel2Ideal.Moe.routed_facts, Cert.Kernel2Ideal.Moe.gated_facts, by
  haveI := Cert.AttnEq.pre_facts
  haveI := Cert.Kernel2Ideal.Moe.routed_facts
  haveI := Cert.Kernel2Ideal.Moe.gated_facts
  exact ⟨fun m ρ _ => Cert.Kernel.Gen.frame m ρ, fun m ρ _ => Cert.KernelIdeal.Gen.frame m ρ,
    fun m ρ _ => Cert.KernelIdeal.Gen.frame m ρ, fun m ρ _ => frame_ri m ρ, fun m ρ _ => frame_ri m ρ,
    frame_k2, frame_ki2, frame_ki2_gated, fun m ρ _ => frame_ri2 m ρ, fun m ρ _ => frame_ri2 m ρ,
    fun m ρ _ => Cert.Kernel3.Gen.frame m ρ, fun m ρ _ => Cert.Kernel3Ideal.Gen.frame m ρ, fun m ρ _ => frame_ri3 m ρ,
    fun m ρ _ => Cert.Kernel4.Gen.frame m ρ, fun m ρ _ => Cert.Kernel4Ideal.Gen.frame m ρ, fun m ρ _ => frame_ri4 m ρ,
    fun m ρ _ => Cert.Kernel5.Gen.frame m ρ, fun m ρ _ => Cert.Kernel5Ideal.Gen.frame m ρ, fun m ρ _ => frame_ri5 m ρ,
    trivial, algebraic, trivial, algebraic2, trivial, algebraic3, trivial, algebraic4, trivial, algebraic5⟩⟩

end Cert.Proof

end
